-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_in_range [hPre_gain_in_range : Cert.Pre_gain_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gain_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_in_range [hPre_gain_in_range : Cert.Pre_gain_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gain_in_range [hKernelIdeal : Cert.KernelIdeal.Facts] [hPre_gain_in_range : Cert.Pre_gain_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gain_in_range [hReferenceIdeal : Cert.ReferenceIdeal.Facts] [hPre_gain_in_range : Cert.Pre_gain_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gain_in_range [hKernelIdeal : Cert.KernelIdeal.Facts] [hReferenceIdeal : Cert.ReferenceIdeal.Facts] [hPre_gain_in_range : Cert.Pre_gain_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gain_in_range : Cert.Pre_gain_in_range.Facts),
    quiescent_Kernel (hKernel := hKernel)
    ∧ quiescent_KernelIdeal (hKernelIdeal := hKernelIdeal)
    ∧ quiescent_KernelIdeal_pre_gain_in_range (hKernelIdeal := hKernelIdeal) (hPre_gain_in_range := hPre_gain_in_range)
    ∧ quiescent_ReferenceIdeal (hReferenceIdeal := hReferenceIdeal)
    ∧ quiescent_ReferenceIdeal_pre_gain_in_range (hReferenceIdeal := hReferenceIdeal) (hPre_gain_in_range := hPre_gain_in_range)
    ∧ preserves_Kernel_KernelIdeal
    ∧ algebraic_KernelIdeal_ReferenceIdeal_pre_gain_in_range (hKernelIdeal := hKernelIdeal) (hReferenceIdeal := hReferenceIdeal) (hPre_gain_in_range := hPre_gain_in_range)
-- ==== Pre_gain_in_range.lean ====
abbrev S1x128x8x16384 : Shape := ⟨4, ![1, 128, 8, 16384]⟩
abbrev S1x128x8 : Shape := ⟨3, ![1, 128, 8]⟩
abbrev S16384 : Shape := ⟨1, ![16384]⟩
abbrev S1x128x16384 : Shape := ⟨3, ![1, 128, 16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S1x128x8x16384 .fp8e4m3) (main_arg1 : FVec F S1x128x8 .f32) (main_arg2 : FVec F S16384 .f32) (main_arg3 : FVec F S1x128x16384 .bf16) (main_arg4 : FVec F S16384 .f32) : IVec S16384 1 :=
  let main_v0 : FVec F S16384 .f32 := Host.absf main_arg4
  let main_cst : FVec F S_ .f32 := constant S_ .f32 0x7F000000#32
  let main_v1 : FVec F S16384 .f32 := broadcastInDim S16384 ![] bcast_S_S16384 main_cst
  let main_v2 : IVec S16384 1 := cmpf .ole main_v0 main_v1
  main_v2
-- ==== Kernel.lean ====
abbrev S1x128x8x16384 : Shape := ⟨4, ![1, 128, 8, 16384]⟩
abbrev S1x128x8 : Shape := ⟨3, ![1, 128, 8]⟩
abbrev S16384 : Shape := ⟨1, ![16384]⟩
abbrev S1x128x16384 : Shape := ⟨3, ![1, 128, 16384]⟩
abbrev S128x8x128x128 : Shape := ⟨4, ![128, 8, 128, 128]⟩
abbrev S128x128x8x128 : Shape := ⟨4, ![128, 128, 8, 128]⟩
abbrev S128x1024x128 : Shape := ⟨3, ![128, 1024, 128]⟩
abbrev S128x8 : Shape := ⟨2, ![128, 8]⟩
abbrev S1x16384 : Shape := ⟨2, ![1, 16384]⟩
abbrev S128x16384 : Shape := ⟨2, ![128, 16384]⟩
abbrev S128x128 : Shape := ⟨2, ![128, 128]⟩
abbrev S32x1024x128 : Shape := ⟨3, ![32, 1024, 128]⟩
abbrev S32x8 : Shape := ⟨2, ![32, 8]⟩
abbrev S32x16384 : Shape := ⟨2, ![32, 16384]⟩
abbrev S32x128 : Shape := ⟨2, ![32, 128]⟩
abbrev S32x256 : Shape := ⟨2, ![32, 256]⟩
abbrev S8x256 : Shape := ⟨2, ![8, 256]⟩
abbrev S8x128 : Shape := ⟨2, ![8, 128]⟩
abbrev S8x32x128 : Shape := ⟨3, ![8, 32, 128]⟩
abbrev S256x128 : Shape := ⟨2, ![256, 128]⟩
abbrev S256x256 : Shape := ⟨2, ![256, 256]⟩
abbrev S1x128 : Shape := ⟨2, ![1, 128]⟩
abbrev S8 : Shape := ⟨1, ![8]⟩
abbrev S8x1 : Shape := ⟨2, ![8, 1]⟩
abbrev S128x1 : Shape := ⟨2, ![128, 1]⟩
abbrev S128 : Shape := ⟨1, ![128]⟩

abbrev nBuf : Space → Nat
  | .hbm => 20
  | .vmem => 15
  | .smem => 0
  | _ => 0

abbrev bufTy : (tb : Table) → Fin (tcTables nBuf tb) → BufTy
  | .hbm, ⟨0, _⟩ => ⟨S1x128x8x16384, .fp8e4m3⟩
  | .hbm, ⟨1, _⟩ => ⟨S1x128x8, .f32⟩
  | .hbm, ⟨2, _⟩ => ⟨S16384, .f32⟩
  | .hbm, ⟨3, _⟩ => ⟨S1x128x16384, .bf16⟩
  | .hbm, ⟨4, _⟩ => ⟨S16384, .f32⟩
  | .hbm, ⟨5, _⟩ => ⟨S128x8x128x128, .fp8e4m3⟩
  | .hbm, ⟨6, _⟩ => ⟨S128x128x8x128, .fp8e4m3⟩
  | .hbm, ⟨7, _⟩ => ⟨S128x1024x128, .fp8e4m3⟩
  | .hbm, ⟨8, _⟩ => ⟨S128x8, .f32⟩
  | .hbm, ⟨9, _⟩ => ⟨S1x16384, .f32⟩
  | .hbm, ⟨10, _⟩ => ⟨S128x16384, .bf16⟩
  | .hbm, ⟨11, _⟩ => ⟨S1x16384, .f32⟩
  | .hbm, ⟨12, _⟩ => ⟨S128x16384, .bf16⟩
  | .hbm, ⟨13, _⟩ => ⟨S128x16384, .fp8e4m3⟩
  | .hbm, ⟨14, _⟩ => ⟨S128x128, .f32⟩
  | .hbm, ⟨15, _⟩ => ⟨S1x128x16384, .bf16⟩
  | .hbm, ⟨16, _⟩ => ⟨S1x128x16384, .fp8e4m3⟩
  | .hbm, ⟨17, _⟩ => ⟨S128x1, .f32⟩
  | .hbm, ⟨18, _⟩ => ⟨S128, .f32⟩
  | .hbm, ⟨19, _⟩ => ⟨S1x128, .f32⟩
  | .local _ .vmem, ⟨0, _⟩ => ⟨S32x1024x128, .fp8e4m3⟩
  | .local _ .vmem, ⟨1, _⟩ => ⟨S32x1024x128, .fp8e4m3⟩
  | .local _ .vmem, ⟨2, _⟩ => ⟨S32x8, .f32⟩
  | .local _ .vmem, ⟨3, _⟩ => ⟨S32x8, .f32⟩
  | .local _ .vmem, ⟨4, _⟩ => ⟨S1x16384, .f32⟩
  | .local _ .vmem, ⟨5, _⟩ => ⟨S32x16384, .bf16⟩
  | .local _ .vmem, ⟨6, _⟩ => ⟨S32x16384, .bf16⟩
  | .local _ .vmem, ⟨7, _⟩ => ⟨S1x16384, .f32⟩
  | .local _ .vmem, ⟨8, _⟩ => ⟨S32x16384, .bf16⟩
  | .local _ .vmem, ⟨9, _⟩ => ⟨S32x16384, .bf16⟩
  | .local _ .vmem, ⟨10, _⟩ => ⟨S32x16384, .fp8e4m3⟩
  | .local _ .vmem, ⟨11, _⟩ => ⟨S32x16384, .fp8e4m3⟩
  | .local _ .vmem, ⟨12, _⟩ => ⟨S32x128, .f32⟩
  | .local _ .vmem, ⟨13, _⟩ => ⟨S32x128, .f32⟩
  | .local _ .vmem, ⟨14, _⟩ => ⟨S32x16384, .f32⟩
  | _, _ => ⟨S1x128x8x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x16384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x16384 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x128x8x16384 : Shape := ⟨4, ![1, 128, 8, 16384]⟩
abbrev S1x128x8 : Shape := ⟨3, ![1, 128, 8]⟩
abbrev S16384 : Shape := ⟨1, ![16384]⟩
abbrev S1x128x16384 : Shape := ⟨3, ![1, 128, 16384]⟩
abbrev S1x128 : Shape := ⟨2, ![1, 128]⟩
abbrev S1x128x8x1 : Shape := ⟨4, ![1, 128, 8, 1]⟩
abbrev S1x1x16384 : Shape := ⟨3, ![1, 1, 16384]⟩
abbrev S1x128x1 : Shape := ⟨3, ![1, 128, 1]⟩

abbrev nBuf : Space → Nat
  | .hbm => 8
  | .vmem => 8
  | .smem => 0
  | _ => 0

abbrev bufTy : (tb : Table) → Fin (tcTables nBuf tb) → BufTy
  | .hbm, ⟨0, _⟩ => ⟨S1x128x8x16384, .fp8e4m3⟩
  | .hbm, ⟨1, _⟩ => ⟨S1x128x8, .f32⟩
  | .hbm, ⟨2, _⟩ => ⟨S16384, .f32⟩
  | .hbm, ⟨3, _⟩ => ⟨S1x128x16384, .bf16⟩
  | .hbm, ⟨4, _⟩ => ⟨S16384, .f32⟩
  | .hbm, ⟨5, _⟩ => ⟨S1x128x16384, .bf16⟩
  | .hbm, ⟨6, _⟩ => ⟨S1x128x16384, .fp8e4m3⟩
  | .hbm, ⟨7, _⟩ => ⟨S1x128, .f32⟩
  | .local _ .vmem, ⟨0, _⟩ => ⟨S1x128x8x16384, .fp8e4m3⟩
  | .local _ .vmem, ⟨1, _⟩ => ⟨S1x128x8, .f32⟩
  | .local _ .vmem, ⟨2, _⟩ => ⟨S16384, .f32⟩
  | .local _ .vmem, ⟨3, _⟩ => ⟨S1x128x16384, .bf16⟩
  | .local _ .vmem, ⟨4, _⟩ => ⟨S16384, .f32⟩
  | .local _ .vmem, ⟨5, _⟩ => ⟨S1x128x16384, .bf16⟩
  | .local _ .vmem, ⟨6, _⟩ => ⟨S1x128x16384, .fp8e4m3⟩
  | .local _ .vmem, ⟨7, _⟩ => ⟨S1x128, .f32⟩
  | _, _ => ⟨S1x128x8x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x128x8x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128x16384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Core.lean ====
/- One step of the kernel's body at a time: what a load and a store do to a memref owned whole, and the same for a
   program that owns the nine memrefs of the body. -/
module

public import Idealize.ShloMosaic.Lib.Pipeline.FrameBody
public import Idealize.ShloMosaic.Lib.Pipeline.FrameSuffix
public import Idealize.ShloMosaic.Lib.Tactic

@[expose] public section

noncomputable section

namespace Recv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Ix : Type} [DecidableEq Ix] {Name : Type} [DecidableEq Name]
  {U : Type} [URA U] {Lvl : Type} [Preorder Lvl] {Λ : Labels}

local notation "𝕄" => MT nD τ sig Ix Val Name U Lvl

section Prim

variable {defs : Defs nD τ sig Val Λ} (𝒱 : Variants) (c : Thread nD τ) (bd : Option 𝒱.V) (E : Set Name)
variable {α : Type} {Q : α → sProp (MT nD τ sig Ix Val Name U Lvl)} {cs : CoreSpace} {s : Shape} {e : EltTy}

theorem owns_load {m : Memref sig c.2.kind cs s e} {r : LoadRect s} {hl : m.view.LoadsAt r}
    {k : (r.shape.Idx → Val e) → Prog (TpuEff nD τ sig Val Λ c.2) α} {X : s.Idx → Val e} :
    (owns c m fullShare X : sProp 𝕄)
      ⊢ iprop((owns c m fullShare X -∗ wp frame (wpE defs 𝒱 c bd) E (k fun x => X (r.idx x)) Q)
        -∗ wp frame (wpE defs 𝒱 c bd) E (.op (.load m r hl) k) Q) := by
  unfold owns
  iintro ⟨%f, %hf, H⟩ Hk
  subst hf
  iapply (wp_load 𝒱 c bd E (m := m) (r := r) (S := m.view.set) (Finset.map_subset_map.2 (Finset.subset_univ _))) $$ H
  iintro H
  iapply Hk
  iexists f; isplitr; · ipureintro; rfl
  iexact H

theorem read_write_overlay {m : Memref sig c.2.kind cs s e} {r : Rect s} {w : r.shape.Idx → Val e} (f : m.view.ty.Contents Val) :
    m.view.read Val ((m.access r).write Val f w Finset.univ) = r.overlay (m.view.read Val f) w := by
  funext j
  by_cases hj : j ∈ r.set
  · obtain ⟨i, rfl⟩ : ∃ i, r.emb i = j := by
      rw [← r.map_emb_univ, Finset.mem_map] at hj; obtain ⟨i, -, h⟩ := hj; exact ⟨i, h⟩
    rw [Rect.overlay_emb]; exact View.read_slice_write_emb (v := m.view) r f w (Finset.mem_univ i)
  · rw [Rect.overlay_of_not_mem _ _ _ hj]
    exact View.read_slice_write_of_not_mem (v := m.view) r f w _ (by rwa [r.map_emb_univ])

theorem owns_store {m : Memref sig c.2.kind cs s e} {r : Rect s} {w : r.shape.Idx → Val e}
    {hx : (m.access r).Stores Finset.univ} {hm : Finset.univ = Finset.univ ∨ ∀ a, r.stride a = 1}
    {k : PUnit.{1} → Prog (TpuEff nD τ sig Val Λ c.2) α} {X : s.Idx → Val e} :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store 𝒱 c bd E (m := m) (r := r) (Mk := Finset.univ) (View.set_slice_subset _ _)) $$ H
  iintro H
  iapply Hk
  iexists _; isplitr
  swap; · iexact H
  ipureintro; exact read_write_overlay c f

end Prim

/-! ## The nine memrefs of the body -/

variable {F : FTy → Type} [FloatOps F]

local notation "𝕂" => MT nD τ sig Unit (Elt F) ℕ (UR sig nD τ) ℕ

abbrev SP : Shape := ⟨3, ![32, 1024, 128]⟩
abbrev SS : Shape := ⟨2, ![32, 8]⟩
abbrev SR : Shape := ⟨2, ![1, 16384]⟩
abbrev SX : Shape := ⟨2, ![32, 16384]⟩
abbrev SQ : Shape := ⟨2, ![32, 128]⟩
abbrev T8 : Shape := ⟨2, ![8, 128]⟩
abbrev T1 : Shape := ⟨2, ![1, 128]⟩

section Body

variable (defs : Defs nD τ sig (Elt F) Λ) (c : Dev nD) (E : Set ℕ)
  (M1 : Memref sig .tc .vmem SP .fp8e4m3) (M2 : Memref sig .tc .vmem SS .f32) (M3 : Memref sig .tc .vmem SR .f32)
  (M4 : Memref sig .tc .vmem SX .bf16) (M5 : Memref sig .tc .vmem SR .f32) (M6 : Memref sig .tc .vmem SX .bf16)
  (M7 : Memref sig .tc .vmem SX .fp8e4m3) (M8 : Memref sig .tc .vmem SQ .f32) (M9 : Memref sig .tc .vmem SX .f32)
  (x1 : Vec F SP .fp8e4m3) (x2 : Vec F SS .f32) (x3 : Vec F SR .f32) (x4 : Vec F SX .bf16) (x5 : Vec F SR .f32)
  (x6 : Vec F SX .bf16) (x7 : Vec F SX .fp8e4m3) (x8 : Vec F SQ .f32) (x9 : Vec F SX .f32)

/-- The body's nine memrefs, and what each holds. -/
def Holds : sProp 𝕂 :=
  iprop(owns (c : Thread nD τ) M1 fullShare x1 ∗ owns (c : Thread nD τ) M2 fullShare x2 ∗ owns (c : Thread nD τ) M3 fullShare x3
    ∗ owns (c : Thread nD τ) M4 fullShare x4 ∗ owns (c : Thread nD τ) M5 fullShare x5 ∗ owns (c : Thread nD τ) M6 fullShare x6
    ∗ owns (c : Thread nD τ) M7 fullShare x7 ∗ owns (c : Thread nD τ) M8 fullShare x8 ∗ owns (c : Thread nD τ) M9 fullShare x9)

/-- A program is safe from what the memrefs hold when, given them, it runs to `K`. -/
def Safe (R : sProp 𝕂) (K : PUnit.{1} → sProp 𝕂) (prog : Prog (TpuEff nD τ sig (Elt F) Λ .tc) PUnit.{1}) : Prop :=
  iprop(Holds c M1 M2 M3 M4 M5 M6 M7 M8 M9 x1 x2 x3 x4 x5 x6 x7 x8 x9 ∗ R)
    ⊢ wp frame (wpE defs Variants.none c none) E prog K

end Body

section Steps

variable {defs : Defs nD τ sig (Elt F) Λ} {c : Dev nD} {E : Set ℕ}
  {M1 : Memref sig .tc .vmem SP .fp8e4m3} {M2 : Memref sig .tc .vmem SS .f32} {M3 : Memref sig .tc .vmem SR .f32}
  {M4 : Memref sig .tc .vmem SX .bf16} {M5 : Memref sig .tc .vmem SR .f32} {M6 : Memref sig .tc .vmem SX .bf16}
  {M7 : Memref sig .tc .vmem SX .fp8e4m3} {M8 : Memref sig .tc .vmem SQ .f32} {M9 : Memref sig .tc .vmem SX .f32}
  {x1 : Vec F SP .fp8e4m3} {x2 : Vec F SS .f32} {x3 : Vec F SR .f32} {x4 : Vec F SX .bf16} {x5 : Vec F SR .f32}
  {x6 : Vec F SX .bf16} {x7 : Vec F SX .fp8e4m3} {x8 : Vec F SQ .f32} {x9 : Vec F SX .f32}
  {R : sProp (MT nD τ sig Unit (Elt F) ℕ (UR sig nD τ) ℕ)} {K : PUnit.{1} → sProp (MT nD τ sig Unit (Elt F) ℕ (UR sig nD τ) ℕ)}

/-- A load from a memref that can be taken out of what the body holds and put back. -/
theorem safe_load {cs : CoreSpace} {s : Shape} {e : EltTy} {m : Memref sig .tc cs s e} {X : s.Idx → Elt F e} {H : sProp 𝕂}
    (hH : H ⊢ iprop(owns (c : Thread nD τ) m fullShare X ∗ (owns (c : Thread nD τ) m fullShare X -∗ H)))
    {r : LoadRect s} {hl : m.view.LoadsAt r} {k : (r.shape.Idx → Elt F e) → Prog (TpuEff nD τ sig (Elt F) Λ .tc) PUnit.{1}}
    (h : iprop(H ∗ R) ⊢ wp frame (wpE defs Variants.none c none) E (k fun x => X (r.idx x)) K) :
    iprop(H ∗ R) ⊢ wp frame (wpE defs Variants.none c none) E (.op (.load m r hl) k) K := by
  iintro ⟨H, HR⟩
  ihave H := hH $$ H
  icases H with ⟨Hm, Hb⟩
  iapply (owns_load Variants.none (c : Thread nD τ) none E (m := m)) $$ Hm
  iintro Hm
  iapply h
  isplitr [HR]
  · iapply Hb; iexact Hm
  iexact HR

/-- A store to such a memref. -/
theorem safe_store {cs : CoreSpace} {s : Shape} {e : EltTy} {m : Memref sig .tc cs s e} {X : s.Idx → Elt F e} {H H' : sProp 𝕂}
    {r : Rect s} {w : r.shape.Idx → Elt F e}
    (hH : H ⊢ iprop(owns (c : Thread nD τ) m fullShare X ∗ (owns (c : Thread nD τ) m fullShare (r.overlay X w) -∗ H')))
    {hx : (m.access r).Stores Finset.univ} {hm : Finset.univ = Finset.univ ∨ ∀ a, r.stride a = 1}
    {k : PUnit.{1} → Prog (TpuEff nD τ sig (Elt F) Λ .tc) PUnit.{1}}
    (h : iprop(H' ∗ R) ⊢ wp frame (wpE defs Variants.none c none) E (k ⟨⟩) K) :
    iprop(H ∗ R) ⊢ wp frame (wpE defs Variants.none c none) E (.op (.store m r w Finset.univ hx hm) k) K := by
  iintro ⟨H, HR⟩
  ihave H := hH $$ H
  icases H with ⟨Hm, Hb⟩
  iapply (owns_store Variants.none (c : Thread nD τ) none E (m := m)) $$ Hm
  iintro Hm
  iapply h
  isplitr [HR]
  · iapply Hb; iexact Hm
  iexact HR

theorem holds1 : (Holds c M1 M2 M3 M4 M5 M6 M7 M8 M9 x1 x2 x3 x4 x5 x6 x7 x8 x9 : sProp 𝕂)
    ⊢ iprop(owns (c : Thread nD τ) M1 fullShare x1 ∗ (owns (c : Thread nD τ) M1 fullShare x1 -∗ Holds c M1 M2 M3 M4 M5 M6 M7 M8 M9 x1 x2 x3 x4 x5 x6 x7 x8 x9)) := by
  unfold Holds
  iintro ⟨H1, H2, H3, H4, H5, H6, H7, H8, H9⟩
  isplitl [H1]; · iexact H1
  iintro H1
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem holds2 : (Holds c M1 M2 M3 M4 M5 M6 M7 M8 M9 x1 x2 x3 x4 x5 x6 x7 x8 x9 : sProp 𝕂)
    ⊢ iprop(owns (c : Thread nD τ) M2 fullShare x2 ∗ (owns (c : Thread nD τ) M2 fullShare x2 -∗ Holds c M1 M2 M3 M4 M5 M6 M7 M8 M9 x1 x2 x3 x4 x5 x6 x7 x8 x9)) := by
  unfold Holds
  iintro ⟨H1, H2, H3, H4, H5, H6, H7, H8, H9⟩
  isplitl [H2]; · iexact H2
  iintro H2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem holds3 : (Holds c M1 M2 M3 M4 M5 M6 M7 M8 M9 x1 x2 x3 x4 x5 x6 x7 x8 x9 : sProp 𝕂)
    ⊢ iprop(owns (c : Thread nD τ) M3 fullShare x3 ∗ (owns (c : Thread nD τ) M3 fullShare x3 -∗ Holds c M1 M2 M3 M4 M5 M6 M7 M8 M9 x1 x2 x3 x4 x5 x6 x7 x8 x9)) := by
  unfold Holds
  iintro ⟨H1, H2, H3, H4, H5, H6, H7, H8, H9⟩
  isplitl [H3]; · iexact H3
  iintro H3
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem holds4 : (Holds c M1 M2 M3 M4 M5 M6 M7 M8 M9 x1 x2 x3 x4 x5 x6 x7 x8 x9 : sProp 𝕂)
    ⊢ iprop(owns (c : Thread nD τ) M4 fullShare x4 ∗ (owns (c : Thread nD τ) M4 fullShare x4 -∗ Holds c M1 M2 M3 M4 M5 M6 M7 M8 M9 x1 x2 x3 x4 x5 x6 x7 x8 x9)) := by
  unfold Holds
  iintro ⟨H1, H2, H3, H4, H5, H6, H7, H8, H9⟩
  isplitl [H4]; · iexact H4
  iintro H4
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem holds5 : (Holds c M1 M2 M3 M4 M5 M6 M7 M8 M9 x1 x2 x3 x4 x5 x6 x7 x8 x9 : sProp 𝕂)
    ⊢ iprop(owns (c : Thread nD τ) M5 fullShare x5 ∗ (owns (c : Thread nD τ) M5 fullShare x5 -∗ Holds c M1 M2 M3 M4 M5 M6 M7 M8 M9 x1 x2 x3 x4 x5 x6 x7 x8 x9)) := by
  unfold Holds
  iintro ⟨H1, H2, H3, H4, H5, H6, H7, H8, H9⟩
  isplitl [H5]; · iexact H5
  iintro H5
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem holds6 (x6' : Vec F SX .bf16) : (Holds c M1 M2 M3 M4 M5 M6 M7 M8 M9 x1 x2 x3 x4 x5 x6 x7 x8 x9 : sProp 𝕂)
    ⊢ iprop(owns (c : Thread nD τ) M6 fullShare x6 ∗ (owns (c : Thread nD τ) M6 fullShare x6' -∗ Holds c M1 M2 M3 M4 M5 M6 M7 M8 M9 x1 x2 x3 x4 x5 x6' x7 x8 x9)) := by
  unfold Holds
  iintro ⟨H1, H2, H3, H4, H5, H6, H7, H8, H9⟩
  isplitl [H6]; · iexact H6
  iintro H6
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem holds7 (x7' : Vec F SX .fp8e4m3) : (Holds c M1 M2 M3 M4 M5 M6 M7 M8 M9 x1 x2 x3 x4 x5 x6 x7 x8 x9 : sProp 𝕂)
    ⊢ iprop(owns (c : Thread nD τ) M7 fullShare x7 ∗ (owns (c : Thread nD τ) M7 fullShare x7' -∗ Holds c M1 M2 M3 M4 M5 M6 M7 M8 M9 x1 x2 x3 x4 x5 x6 x7' x8 x9)) := by
  unfold Holds
  iintro ⟨H1, H2, H3, H4, H5, H6, H7, H8, H9⟩
  isplitl [H7]; · iexact H7
  iintro H7
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem holds8 (x8' : Vec F SQ .f32) : (Holds c M1 M2 M3 M4 M5 M6 M7 M8 M9 x1 x2 x3 x4 x5 x6 x7 x8 x9 : sProp 𝕂)
    ⊢ iprop(owns (c : Thread nD τ) M8 fullShare x8 ∗ (owns (c : Thread nD τ) M8 fullShare x8' -∗ Holds c M1 M2 M3 M4 M5 M6 M7 M8 M9 x1 x2 x3 x4 x5 x6 x7 x8' x9)) := by
  unfold Holds
  iintro ⟨H1, H2, H3, H4, H5, H6, H7, H8, H9⟩
  isplitl [H8]; · iexact H8
  iintro H8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem holds9 (x9' : Vec F SX .f32) : (Holds c M1 M2 M3 M4 M5 M6 M7 M8 M9 x1 x2 x3 x4 x5 x6 x7 x8 x9 : sProp 𝕂)
    ⊢ iprop(owns (c : Thread nD τ) M9 fullShare x9 ∗ (owns (c : Thread nD τ) M9 fullShare x9' -∗ Holds c M1 M2 M3 M4 M5 M6 M7 M8 M9 x1 x2 x3 x4 x5 x6 x7 x8 x9')) := by
  unfold Holds
  iintro ⟨H1, H2, H3, H4, H5, H6, H7, H8, H9⟩
  isplitl [H9]; · iexact H9
  iintro H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem load1 {r : LoadRect SP} {hl : M1.view.LoadsAt r} {k : (r.shape.Idx → Elt F .fp8e4m3) → Prog (TpuEff nD τ sig (Elt F) Λ .tc) PUnit.{1}}
    {v : r.shape.Idx → Elt F .fp8e4m3} (hv : (fun x => x1 (r.idx x)) = v) (h : Safe defs c E M1 M2 M3 M4 M5 M6 M7 M8 M9 x1 x2 x3 x4 x5 x6 x7 x8 x9 R K (k v)) : Safe defs c E M1 M2 M3 M4 M5 M6 M7 M8 M9 x1 x2 x3 x4 x5 x6 x7 x8 x9 R K (.op (.load M1 r hl) k) :=
  safe_load holds1 (by subst hv; exact h)

theorem load2 {r : LoadRect SS} {hl : M2.view.LoadsAt r} {k : (r.shape.Idx → Elt F .f32) → Prog (TpuEff nD τ sig (Elt F) Λ .tc) PUnit.{1}}
    {v : r.shape.Idx → Elt F .f32} (hv : (fun x => x2 (r.idx x)) = v) (h : Safe defs c E M1 M2 M3 M4 M5 M6 M7 M8 M9 x1 x2 x3 x4 x5 x6 x7 x8 x9 R K (k v)) : Safe defs c E M1 M2 M3 M4 M5 M6 M7 M8 M9 x1 x2 x3 x4 x5 x6 x7 x8 x9 R K (.op (.load M2 r hl) k) :=
  safe_load holds2 (by subst hv; exact h)

theorem load3 {r : LoadRect SR} {hl : M3.view.LoadsAt r} {k : (r.shape.Idx → Elt F .f32) → Prog (TpuEff nD τ sig (Elt F) Λ .tc) PUnit.{1}}
    {v : r.shape.Idx → Elt F .f32} (hv : (fun x => x3 (r.idx x)) = v) (h : Safe defs c E M1 M2 M3 M4 M5 M6 M7 M8 M9 x1 x2 x3 x4 x5 x6 x7 x8 x9 R K (k v)) : Safe defs c E M1 M2 M3 M4 M5 M6 M7 M8 M9 x1 x2 x3 x4 x5 x6 x7 x8 x9 R K (.op (.load M3 r hl) k) :=
  safe_load holds3 (by subst hv; exact h)

theorem load4 {r : LoadRect SX} {hl : M4.view.LoadsAt r} {k : (r.shape.Idx → Elt F .bf16) → Prog (TpuEff nD τ sig (Elt F) Λ .tc) PUnit.{1}}
    {v : r.shape.Idx → Elt F .bf16} (hv : (fun x => x4 (r.idx x)) = v) (h : Safe defs c E M1 M2 M3 M4 M5 M6 M7 M8 M9 x1 x2 x3 x4 x5 x6 x7 x8 x9 R K (k v)) : Safe defs c E M1 M2 M3 M4 M5 M6 M7 M8 M9 x1 x2 x3 x4 x5 x6 x7 x8 x9 R K (.op (.load M4 r hl) k) :=
  safe_load holds4 (by subst hv; exact h)

theorem load5 {r : LoadRect SR} {hl : M5.view.LoadsAt r} {k : (r.shape.Idx → Elt F .f32) → Prog (TpuEff nD τ sig (Elt F) Λ .tc) PUnit.{1}}
    {v : r.shape.Idx → Elt F .f32} (hv : (fun x => x5 (r.idx x)) = v) (h : Safe defs c E M1 M2 M3 M4 M5 M6 M7 M8 M9 x1 x2 x3 x4 x5 x6 x7 x8 x9 R K (k v)) : Safe defs c E M1 M2 M3 M4 M5 M6 M7 M8 M9 x1 x2 x3 x4 x5 x6 x7 x8 x9 R K (.op (.load M5 r hl) k) :=
  safe_load holds5 (by subst hv; exact h)

theorem load6 {r : LoadRect SX} {hl : M6.view.LoadsAt r} {k : (r.shape.Idx → Elt F .bf16) → Prog (TpuEff nD τ sig (Elt F) Λ .tc) PUnit.{1}}
    {v : r.shape.Idx → Elt F .bf16} (hv : (fun x => x6 (r.idx x)) = v) (h : Safe defs c E M1 M2 M3 M4 M5 M6 M7 M8 M9 x1 x2 x3 x4 x5 x6 x7 x8 x9 R K (k v)) : Safe defs c E M1 M2 M3 M4 M5 M6 M7 M8 M9 x1 x2 x3 x4 x5 x6 x7 x8 x9 R K (.op (.load M6 r hl) k) :=
  safe_load (holds6 x6) (by subst hv; exact h)

theorem load7 {r : LoadRect SX} {hl : M7.view.LoadsAt r} {k : (r.shape.Idx → Elt F .fp8e4m3) → Prog (TpuEff nD τ sig (Elt F) Λ .tc) PUnit.{1}}
    {v : r.shape.Idx → Elt F .fp8e4m3} (hv : (fun x => x7 (r.idx x)) = v) (h : Safe defs c E M1 M2 M3 M4 M5 M6 M7 M8 M9 x1 x2 x3 x4 x5 x6 x7 x8 x9 R K (k v)) : Safe defs c E M1 M2 M3 M4 M5 M6 M7 M8 M9 x1 x2 x3 x4 x5 x6 x7 x8 x9 R K (.op (.load M7 r hl) k) :=
  safe_load (holds7 x7) (by subst hv; exact h)

theorem load8 {r : LoadRect SQ} {hl : M8.view.LoadsAt r} {k : (r.shape.Idx → Elt F .f32) → Prog (TpuEff nD τ sig (Elt F) Λ .tc) PUnit.{1}}
    {v : r.shape.Idx → Elt F .f32} (hv : (fun x => x8 (r.idx x)) = v) (h : Safe defs c E M1 M2 M3 M4 M5 M6 M7 M8 M9 x1 x2 x3 x4 x5 x6 x7 x8 x9 R K (k v)) : Safe defs c E M1 M2 M3 M4 M5 M6 M7 M8 M9 x1 x2 x3 x4 x5 x6 x7 x8 x9 R K (.op (.load M8 r hl) k) :=
  safe_load (holds8 x8) (by subst hv; exact h)

theorem load9 {r : LoadRect SX} {hl : M9.view.LoadsAt r} {k : (r.shape.Idx → Elt F .f32) → Prog (TpuEff nD τ sig (Elt F) Λ .tc) PUnit.{1}}
    {v : r.shape.Idx → Elt F .f32} (hv : (fun x => x9 (r.idx x)) = v) (h : Safe defs c E M1 M2 M3 M4 M5 M6 M7 M8 M9 x1 x2 x3 x4 x5 x6 x7 x8 x9 R K (k v)) : Safe defs c E M1 M2 M3 M4 M5 M6 M7 M8 M9 x1 x2 x3 x4 x5 x6 x7 x8 x9 R K (.op (.load M9 r hl) k) :=
  safe_load (holds9 x9) (by subst hv; exact h)

theorem store6 {r : Rect SX} {w : r.shape.Idx → Elt F .bf16} {hx : (M6.access r).Stores Finset.univ}
    {hm : Finset.univ = Finset.univ ∨ ∀ a, r.stride a = 1} {k : PUnit.{1} → Prog (TpuEff nD τ sig (Elt F) Λ .tc) PUnit.{1}}
    {x6' : Vec F SX .bf16} (hw : r.overlay x6 w = x6')
    (h : Safe defs c E M1 M2 M3 M4 M5 M6 M7 M8 M9 x1 x2 x3 x4 x5 x6' x7 x8 x9 R K (k ⟨⟩)) : Safe defs c E M1 M2 M3 M4 M5 M6 M7 M8 M9 x1 x2 x3 x4 x5 x6 x7 x8 x9 R K (.op (.store M6 r w Finset.univ hx hm) k) :=
  safe_store (X := x6) (by subst hw; exact holds6 _) h

theorem store7 {r : Rect SX} {w : r.shape.Idx → Elt F .fp8e4m3} {hx : (M7.access r).Stores Finset.univ}
    {hm : Finset.univ = Finset.univ ∨ ∀ a, r.stride a = 1} {k : PUnit.{1} → Prog (TpuEff nD τ sig (Elt F) Λ .tc) PUnit.{1}}
    {x7' : Vec F SX .fp8e4m3} (hw : r.overlay x7 w = x7')
    (h : Safe defs c E M1 M2 M3 M4 M5 M6 M7 M8 M9 x1 x2 x3 x4 x5 x6 x7' x8 x9 R K (k ⟨⟩)) : Safe defs c E M1 M2 M3 M4 M5 M6 M7 M8 M9 x1 x2 x3 x4 x5 x6 x7 x8 x9 R K (.op (.store M7 r w Finset.univ hx hm) k) :=
  safe_store (X := x7) (by subst hw; exact holds7 _) h

theorem store8 {r : Rect SQ} {w : r.shape.Idx → Elt F .f32} {hx : (M8.access r).Stores Finset.univ}
    {hm : Finset.univ = Finset.univ ∨ ∀ a, r.stride a = 1} {k : PUnit.{1} → Prog (TpuEff nD τ sig (Elt F) Λ .tc) PUnit.{1}}
    {x8' : Vec F SQ .f32} (hw : r.overlay x8 w = x8')
    (h : Safe defs c E M1 M2 M3 M4 M5 M6 M7 M8 M9 x1 x2 x3 x4 x5 x6 x7 x8' x9 R K (k ⟨⟩)) : Safe defs c E M1 M2 M3 M4 M5 M6 M7 M8 M9 x1 x2 x3 x4 x5 x6 x7 x8 x9 R K (.op (.store M8 r w Finset.univ hx hm) k) :=
  safe_store (X := x8) (by subst hw; exact holds8 _) h

theorem store9 {r : Rect SX} {w : r.shape.Idx → Elt F .f32} {hx : (M9.access r).Stores Finset.univ}
    {hm : Finset.univ = Finset.univ ∨ ∀ a, r.stride a = 1} {k : PUnit.{1} → Prog (TpuEff nD τ sig (Elt F) Λ .tc) PUnit.{1}}
    {x9' : Vec F SX .f32} (hw : r.overlay x9 w = x9')
    (h : Safe defs c E M1 M2 M3 M4 M5 M6 M7 M8 M9 x1 x2 x3 x4 x5 x6 x7 x8 x9' R K (k ⟨⟩)) : Safe defs c E M1 M2 M3 M4 M5 M6 M7 M8 M9 x1 x2 x3 x4 x5 x6 x7 x8 x9 R K (.op (.store M9 r w Finset.univ hx hm) k) :=
  safe_store (X := x9) (by subst hw; exact holds9 _) h

theorem safe_ret (h : iprop(Holds c M1 M2 M3 M4 M5 M6 M7 M8 M9 x1 x2 x3 x4 x5 x6 x7 x8 x9 ∗ R) ⊢ K ⟨⟩) :
    Safe defs c E M1 M2 M3 M4 M5 M6 M7 M8 M9 x1 x2 x3 x4 x5 x6 x7 x8 x9 R K (.ret ⟨⟩) := by
  unfold Safe
  iintro H
  sl_step
  iapply h
  iexact H

end Steps

end Recv
-- ==== Proof.Tiles.lean ====
/- The kernel's body as functions of its inputs, a tile of eight rows and 128 columns at a time, and what the memrefs hold
   while the body goes over a row group's tiles. -/
module

public import proofs.«01_k».proof.Proof.Core

@[expose] public section

set_option maxRecDepth 16384

noncomputable section

namespace Recv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev M : Shape := ⟨2, ![32, 256]⟩
abbrev M8 : Shape := ⟨2, ![8, 256]⟩
abbrev B8 : Shape := ⟨3, ![8, 32, 128]⟩
abbrev C8 : Shape := ⟨2, ![256, 128]⟩
abbrev CC : Shape := ⟨2, ![256, 256]⟩
abbrev V8 : Shape := ⟨1, ![8]⟩
abbrev L8 : Shape := ⟨2, ![8, 1]⟩

/-- The spreading product's axes, and the block product's. -/
def dotA : DotDims SS M8 M where
  lhsContracting := [1]
  rhsContracting := [0]
  lhsNonContracting := [0]
  rhsNonContracting := [1]
  lhsBatch := []
  rhsBatch := []
  wf := by decide
def dotB : DotDims M CC M where
  lhsContracting := [1]
  rhsContracting := [0]
  lhsNonContracting := [0]
  rhsNonContracting := [1]
  lhsBatch := []
  rhsBatch := []
  wf := by decide

/-! ## Indices and tiles -/

/-- The index of row `a` and column `b`, each wrapped into its axis. -/
def at2 (s : Fin 2 → ℕ) (h : ∀ a, 0 < s a) (a b : ℕ) : (⟨2, s⟩ : Shape).Idx :=
  fun k => match k with
    | 0 => ⟨a % s 0, Nat.mod_lt _ (h 0)⟩
    | 1 => ⟨b % s 1, Nat.mod_lt _ (h 1)⟩

def atT (a b : ℕ) : T8.Idx := at2 ![8, 128] (by decide) a b
def atX (a b : ℕ) : SX.Idx := at2 ![32, 16384] (by decide) a b
def atR (a b : ℕ) : SR.Idx := at2 ![1, 16384] (by decide) a b
def atQ (a b : ℕ) : SQ.Idx := at2 ![32, 128] (by decide) a b
def atP (a b d : ℕ) : SP.Idx := fun k => match k with
    | 0 => ⟨a % 32, Nat.mod_lt _ (by decide)⟩
    | 1 => ⟨b % 1024, Nat.mod_lt _ (by decide)⟩
    | 2 => ⟨d % 128, Nat.mod_lt _ (by decide)⟩

variable {α : Type}

/-- Tile `n` of row group `g`, and tile `n` of a single row. -/
def tile8 (x : SX.Idx → α) (g n : ℕ) : T8.Idx → α := fun i => x (atX (8 * g + (i 0).val) (128 * n + (i 1).val))
def tile1 (x : SR.Idx → α) (n : ℕ) : T1.Idx → α := fun i => x (atR (i 0).val (128 * n + (i 1).val))
/-- Tile `n` of all the rows. -/
def tileQ (x : SX.Idx → α) (n : ℕ) : SQ.Idx → α := fun i => x (atX (i 0).val (128 * n + (i 1).val))
/-- Block `j`, 32 rows of the eight shards of 128 columns, of row group `g`. -/
def blockP (x : SP.Idx → α) (g j : ℕ) : B8.Idx → α :=
  fun i => x (atP (8 * g + (i 0).val) (32 * j + (i 1).val) (i 2).val)

/-- `X` with the first `n` tiles of row group `g` replaced by `t g`'s. -/
def over (t : ℕ → ℕ → T8.Idx → α) (X : SX.Idx → α) (g n : ℕ) : SX.Idx → α := fun i =>
  if (i 0).val / 8 = g ∧ (i 1).val / 128 < n then t g ((i 1).val / 128) (atT (i 0).val (i 1).val) else X i
/-- `X` with the first `n` column tiles replaced by `t`'s. -/
def overQ (t : ℕ → SQ.Idx → α) (X : SX.Idx → α) (n : ℕ) : SX.Idx → α := fun i =>
  if (i 1).val / 128 < n then t ((i 1).val / 128) (atQ (i 0).val (i 1).val) else X i

theorem over_zero (t : ℕ → ℕ → T8.Idx → α) (X : SX.Idx → α) (g : ℕ) : over t X g 0 = X := by
  funext i; simp [over]

theorem overQ_zero (t : ℕ → SQ.Idx → α) (X : SX.Idx → α) : overQ t X 0 = X := by
  funext i; simp [overQ]

theorem overQ_full (t : ℕ → SQ.Idx → α) (X : SX.Idx → α) :
    overQ t X 128 = fun i => t ((i 1).val / 128) (atQ (i 0).val (i 1).val) := by
  funext i
  have h1 : (i 1).val < 16384 := (i 1).isLt
  simp only [overQ]; rw [if_pos (by omega)]

/-- With all four row groups replaced nothing of `X` is left. -/
theorem over_full (t : ℕ → ℕ → T8.Idx → α) (X X' : SX.Idx → α) (h0 : ∀ i : SX.Idx, (i 0).val / 8 < 3 → X' i = t ((i 0).val / 8) ((i 1).val / 128) (atT (i 0).val (i 1).val)) :
    over t X' 3 128 = fun i => t ((i 0).val / 8) ((i 1).val / 128) (atT (i 0).val (i 1).val) := by
  funext i
  have h1 : (i 1).val < 16384 := (i 1).isLt
  have h2 : (i 0).val < 32 := (i 0).isLt
  simp only [over]
  by_cases h : (i 0).val / 8 = 3
  · rw [if_pos ⟨h, by omega⟩, h]
  · rw [if_neg (fun h' => h h'.1)]; exact h0 i (by omega)

theorem over_lt (t : ℕ → ℕ → T8.Idx → α) (X : SX.Idx → α) (g : ℕ) (i : SX.Idx) (h : (i 0).val / 8 ≠ g) : over t X g 128 i = X i := by
  simp only [over]; rw [if_neg (fun h' => h h'.1)]

theorem over_eq (t : ℕ → ℕ → T8.Idx → α) (X : SX.Idx → α) (g : ℕ) (i : SX.Idx) (h : (i 0).val / 8 = g) :
    over t X g 128 i = t ((i 0).val / 8) ((i 1).val / 128) (atT (i 0).val (i 1).val) := by
  have h1 : (i 1).val < 16384 := (i 1).isLt
  simp only [over]; rw [if_pos ⟨h, by omega⟩, h]

theorem idx2_ext {s : Fin 2 → ℕ} {i j : (⟨2, s⟩ : Shape).Idx} (h0 : (i 0).val = (j 0).val) (h1 : (i 1).val = (j 1).val) : i = j := by
  funext k; apply Fin.ext
  match k with
  | 0 => exact h0
  | 1 => exact h1

theorem atX_eq (a b : ℕ) (i : SX.Idx) (h0 : (i 0).val = a) (h1 : (i 1).val = b) : i = atX a b := by
  have e1 : (i 1).val < 16384 := (i 1).isLt
  have e0 : (i 0).val < 32 := (i 0).isLt
  refine idx2_ext ?_ ?_
  · show (i 0).val = a % 32; omega
  · show (i 1).val = b % 16384; omega

theorem atT_eq (a b : ℕ) (i : T8.Idx) (h0 : (i 0).val = a % 8) (h1 : (i 1).val = b % 128) : i = atT a b := idx2_ext h0 h1

/-! ## What a load of a tile reads -/

variable {g n : ℕ}

theorem ld8 (x : SX.Idx → α) (inb : ∀ a, (![8 * g, 128 * n] : Fin 2 → ℕ) a + T8.size a ≤ SX.size a) :
    (fun i : T8.Idx => x ((Rect.unit (s := SX) ![8 * g, 128 * n] T8.size inb).toLoadRect.idx i)) = tile8 x g n := by
  funext i
  refine congrArg x (atX_eq _ _ _ ?_ ?_)
  · show 8 * g + 1 * (i 0).val = _; omega
  · show 128 * n + 1 * (i 1).val = _; omega

theorem ldQ (x : SX.Idx → α) (inb : ∀ a, (![0, 128 * n] : Fin 2 → ℕ) a + SQ.size a ≤ SX.size a) :
    (fun i : SQ.Idx => x ((Rect.unit (s := SX) ![0, 128 * n] SQ.size inb).toLoadRect.idx i)) = tileQ x n := by
  funext i
  refine congrArg x (atX_eq _ _ _ ?_ ?_)
  · show 0 + 1 * (i 0).val = _; omega
  · show 128 * n + 1 * (i 1).val = _; omega

theorem ld1 (x : SR.Idx → α) (inb : ∀ a, (![0, 128 * n] : Fin 2 → ℕ) a + T1.size a ≤ SR.size a) :
    (fun i : T1.Idx => x ((Rect.unit (s := SR) ![0, 128 * n] T1.size inb).toLoadRect.idx i)) = tile1 x n := by
  funext i
  have hn : 128 * n + 128 ≤ 16384 := inb 1
  have h1 : (i 1).val < 128 := (i 1).isLt
  have h0 : (i 0).val < 1 := (i 0).isLt
  refine congrArg x (idx2_ext ?_ ?_)
  · show 0 + 1 * (i 0).val = (i 0).val % 1; omega
  · show 128 * n + 1 * (i 1).val = (128 * n + (i 1).val) % 16384; omega

theorem ldS (x : SS.Idx → α) (inb : ∀ a, (![0, 0] : Fin 2 → ℕ) a + SS.size a ≤ SS.size a) :
    (fun i : SS.Idx => x ((Rect.unit (s := SS) ![0, 0] SS.size inb).toLoadRect.idx i)) = x := by
  funext i
  refine congrArg x (idx2_ext ?_ ?_)
  · show 0 + 1 * (i 0).val = (i 0).val; omega
  · show 0 + 1 * (i 1).val = (i 1).val; omega

theorem ldP (x : SP.Idx → α) {j : ℕ} (inb : ∀ a, (![8 * g, 32 * j, 0] : Fin 3 → ℕ) a + B8.size a ≤ SP.size a) :
    (fun i : B8.Idx => x ((Rect.unit (s := SP) ![8 * g, 32 * j, 0] B8.size inb).toLoadRect.idx i)) = blockP x g j := by
  funext i
  have hn : 32 * j + 32 ≤ 1024 := inb 1
  have hg : 8 * g + 8 ≤ 32 := inb 0
  have h0 : (i 0).val < 8 := (i 0).isLt
  have h1 : (i 1).val < 32 := (i 1).isLt
  have h2 : (i 2).val < 128 := (i 2).isLt
  refine congrArg x ?_
  funext k; apply Fin.ext
  match k with
  | 0 => show 8 * g + 1 * (i 0).val = (8 * g + (i 0).val) % 32; omega
  | 1 => show 32 * j + 1 * (i 1).val = (32 * j + (i 1).val) % 1024; omega
  | 2 => show 0 + 1 * (i 2).val = (i 2).val % 128; omega

theorem tile8_ge (t : ℕ → ℕ → T8.Idx → α) (X : SX.Idx → α) (inb : ∀ a, (![8 * g, 128 * n] : Fin 2 → ℕ) a + T8.size a ≤ SX.size a) :
    tile8 (over t X g n) g n = tile8 X g n := by
  funext i
  have hn : 128 * n + 128 ≤ 16384 := inb 1
  have h1 : (i 1).val < 128 := (i 1).isLt
  simp only [tile8, over]
  rw [if_neg]
  rintro ⟨-, h⟩
  have : (128 * n + (i 1).val) % 16384 / 128 < n := h
  omega

theorem tile8_full (t : ℕ → ℕ → T8.Idx → α) (X : SX.Idx → α) (inb : ∀ a, (![8 * g, 128 * n] : Fin 2 → ℕ) a + T8.size a ≤ SX.size a) :
    tile8 (over t X g 128) g n = t g n := by
  funext i
  have hn : 128 * n + 128 ≤ 16384 := inb 1
  have hg : 8 * g + 8 ≤ 32 := inb 0
  have h1 : (i 1).val < 128 := (i 1).isLt
  have h0 : (i 0).val < 8 := (i 0).isLt
  simp only [tile8, over]
  have e0 : ((atX (8 * g + (i 0).val) (128 * n + (i 1).val)) 0).val = 8 * g + (i 0).val := Nat.mod_eq_of_lt (by show _ < 32; omega)
  have e1 : ((atX (8 * g + (i 0).val) (128 * n + (i 1).val)) 1).val = 128 * n + (i 1).val := Nat.mod_eq_of_lt (by show _ < 16384; omega)
  rw [e0, e1, if_pos (by omega), show (128 * n + (i 1).val) / 128 = n by omega]
  refine congrArg _ (atT_eq _ _ _ ?_ ?_).symm <;> omega

/-! ## What a store of a tile leaves -/

theorem overlay_over (t : ℕ → ℕ → T8.Idx → α) (X : SX.Idx → α) (inb : ∀ a, (![8 * g, 128 * n] : Fin 2 → ℕ) a + T8.size a ≤ SX.size a)
    (w : T8.Idx → α) (hw : w = t g n) :
    (Rect.unit (s := SX) ![8 * g, 128 * n] T8.size inb).overlay (over t X g n) w = over t X g (n + 1) := by
  subst hw
  funext i
  have hn : 128 * n + 128 ≤ 16384 := inb 1
  have hg : 8 * g + 8 ≤ 32 := inb 0
  by_cases h : i ∈ (Rect.unit (s := SX) ![8 * g, 128 * n] T8.size inb).set
  · have h' := Rect.mem_set_unit.1 h
    have a0 : 8 * g ≤ (i 0).val ∧ (i 0).val < 8 * g + 8 := h' 0
    have a1 : 128 * n ≤ (i 1).val ∧ (i 1).val < 128 * n + 128 := h' 1
    have : (Rect.unit (s := SX) ![8 * g, 128 * n] T8.size inb).emb (atT (i 0).val (i 1).val) = i := by
      refine idx2_ext ?_ ?_
      · show 8 * g + 1 * ((i 0).val % 8) = _; omega
      · show 128 * n + 1 * ((i 1).val % 128) = _; omega
    conv_lhs => rw [← this]
    rw [Rect.overlay_emb]
    simp only [over]
    rw [if_pos (by omega), show (i 1).val / 128 = n by omega]
  · rw [Rect.overlay_of_not_mem _ _ _ h]
    simp only [over]
    have : ¬((i 0).val / 8 = g ∧ (i 1).val / 128 = n) := fun ⟨b0, b1⟩ => h (Rect.mem_set_unit.2 fun a => by
      match a with
      | 0 => show 8 * g ≤ (i 0).val ∧ (i 0).val < 8 * g + 8; omega
      | 1 => show 128 * n ≤ (i 1).val ∧ (i 1).val < 128 * n + 128; omega)
    by_cases hh : (i 0).val / 8 = g ∧ (i 1).val / 128 < n
    · rw [if_pos hh, if_pos (by omega)]
    · rw [if_neg hh, if_neg (by omega)]

theorem overlay_overQ (t : ℕ → SQ.Idx → α) (X : SX.Idx → α) (inb : ∀ a, (![0, 128 * n] : Fin 2 → ℕ) a + SQ.size a ≤ SX.size a)
    (w : SQ.Idx → α) (hw : w = t n) :
    (Rect.unit (s := SX) ![0, 128 * n] SQ.size inb).overlay (overQ t X n) w = overQ t X (n + 1) := by
  subst hw
  funext i
  have hn : 128 * n + 128 ≤ 16384 := inb 1
  have hi : (i 0).val < 32 := (i 0).isLt
  by_cases h : i ∈ (Rect.unit (s := SX) ![0, 128 * n] SQ.size inb).set
  · have h' := Rect.mem_set_unit.1 h
    have a1 : 128 * n ≤ (i 1).val ∧ (i 1).val < 128 * n + 128 := h' 1
    have : (Rect.unit (s := SX) ![0, 128 * n] SQ.size inb).emb (atQ (i 0).val (i 1).val) = i := by
      refine idx2_ext ?_ ?_
      · show 0 + 1 * ((i 0).val % 32) = _; omega
      · show 128 * n + 1 * ((i 1).val % 128) = _; omega
    conv_lhs => rw [← this]
    rw [Rect.overlay_emb]
    simp only [overQ]
    rw [if_pos (by omega), show (i 1).val / 128 = n by omega]
  · rw [Rect.overlay_of_not_mem _ _ _ h]
    simp only [overQ]
    have : ¬((i 1).val / 128 = n) := fun b1 => h (Rect.mem_set_unit.2 fun a => by
      match a with
      | 0 => show 0 ≤ (i 0).val ∧ (i 0).val < 0 + 32; omega
      | 1 => show 128 * n ≤ (i 1).val ∧ (i 1).val < 128 * n + 128; omega)
    by_cases hh : (i 1).val / 128 < n
    · rw [if_pos hh, if_pos (by omega)]
    · rw [if_neg hh, if_neg (by omega)]

theorem overlay_whole (X w : SQ.Idx → α) (inb : ∀ a, (![0, 0] : Fin 2 → ℕ) a + SQ.size a ≤ SQ.size a) :
    (Rect.unit (s := SQ) ![0, 0] SQ.size inb).overlay X w = w := by
  funext i
  have : (Rect.unit (s := SQ) ![0, 0] SQ.size inb).emb i = i := by
    refine idx2_ext ?_ ?_
    · show 0 + 1 * (i 0).val = _; omega
    · show 0 + 1 * (i 1).val = _; omega
  conv_lhs => rw [← this]
  rw [Rect.overlay_emb]

/-! ## The body's values -/

section Values

variable {F : FTy → Type} [FloatOps F]
variable (p : Vec F SP .fp8e4m3) (s : Vec F SS .f32) (b : Vec F SR .f32) (x : Vec F SX .bf16) (gain : Vec F SR .f32)

/-- The mask of the block-diagonal left operand, as the body computes it. -/
def maskF : IVec M 1 :=
  have v0 : IVec M 32 := iota .tc M 32 [1]
  have v1 : IVec M 32 := iota .tc M 32 [0]
  let c32_i32 : BitVec 32 := 32#32
  have v2 : IVec M 32 := broadcast M c32_i32
  have v3 : IVec M 32 := divsi v0 v2
  let c0_i32 : BitVec 32 := 0#32
  have v4 : IVec M 32 := broadcast M c0_i32
  have v5 : IVec M 1 := cmpi .sgt v0 v4
  have v6 : IVec M 32 := extui 32 v5
  let c0_i32_0 : BitVec 32 := 0#32
  have v7 : IVec M 32 := broadcast M c0_i32_0
  have v8 : IVec M 1 := cmpi .slt v0 v7
  have v9 : IVec M 32 := extui 32 v8
  have v10 : IVec M 32 := subi v6 v9
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  have v16 : IVec M 32 := broadcast M v15
  have v17 : IVec M 1 := cmpi .ne v10 v16
  have v18 : IVec M 32 := broadcast M c32_i32
  have v19 : IVec M 32 := remsi v0 v18
  let c0_i32_3 : BitVec 32 := 0#32
  have v20 : IVec M 32 := broadcast M c0_i32_3
  have v21 : IVec M 1 := cmpi .ne v19 v20
  have v22 : IVec M 1 := andi v17 v21
  let c1_i32 : BitVec 32 := 1#32
  have v23 : IVec M 32 := broadcast M c1_i32
  have v24 : IVec M 32 := subi v3 v23
  have v25 : IVec M 32 := select v22 v24 v3
  let c8_i32 : BitVec 32 := 8#32
  let c0_i32_4 : BitVec 32 := 0#32
  let v26 : BitVec 1 := Scalar.cmpi .eq c8_i32 c0_i32_4
  let c1_i32_5 : BitVec 32 := 1#32
  let v27 : BitVec 32 := Scalar.select v26 c1_i32_5 c8_i32
  have v28 : IVec M 32 := broadcast M v27
  have v29 : IVec M 32 := remsi v1 v28
  let c0_i32_6 : BitVec 32 := 0#32
  have v30 : IVec M 32 := broadcast M c0_i32_6
  have v31 : IVec M 1 := cmpi .ne v29 v30
  let c0_i32_7 : BitVec 32 := 0#32
  have v32 : IVec M 32 := broadcast M c0_i32_7
  have v33 : IVec M 1 := cmpi .slt v29 v32
  let c0_i32_8 : BitVec 32 := 0#32
  let v34 : BitVec 1 := Scalar.cmpi .slt v27 c0_i32_8
  have v35 : IVec M 1 := broadcast M v34
  have v36 : IVec M 1 := broadcastTo M v35
  have v37 : IVec M 1 := xori v33 v36
  have v38 : IVec M 1 := andi v37 v31
  have v39 : IVec M 32 := broadcast M v27
  have v40 : IVec M 32 := addi v29 v39
  have v41 : IVec M 32 := select v38 v40 v29
  have v42 : IVec M 1 := cmpi .eq v25 v41
  let c8_i32_9 : BitVec 32 := 8#32
  have v43 : IVec M 32 := broadcast M c8_i32_9
  have v44 : IVec M 32 := divsi v0 v43
  let c0_i32_10 : BitVec 32 := 0#32
  have v45 : IVec M 32 := broadcast M c0_i32_10
  have v46 : IVec M 1 := cmpi .sgt v0 v45
  have v47 : IVec M 32 := extui 32 v46
  let c0_i32_11 : BitVec 32 := 0#32
  have v48 : IVec M 32 := broadcast M c0_i32_11
  have v49 : IVec M 1 := cmpi .slt v0 v48
  have v50 : IVec M 32 := extui 32 v49
  have v51 : IVec M 32 := subi v47 v50
  let c0_i32_12 : BitVec 32 := 0#32
  let v52 : BitVec 1 := Scalar.cmpi .sgt c8_i32_9 c0_i32_12
  let v53 : BitVec 32 := Scalar.extui v52
  let c0_i32_13 : BitVec 32 := 0#32
  let v54 : BitVec 1 := Scalar.cmpi .slt c8_i32_9 c0_i32_13
  let v55 : BitVec 32 := Scalar.extui v54
  let v56 : BitVec 32 := Scalar.subi v53 v55
  have v57 : IVec M 32 := broadcast M v56
  have v58 : IVec M 1 := cmpi .ne v51 v57
  have v59 : IVec M 32 := broadcast M c8_i32_9
  have v60 : IVec M 32 := remsi v0 v59
  let c0_i32_14 : BitVec 32 := 0#32
  have v61 : IVec M 32 := broadcast M c0_i32_14
  have v62 : IVec M 1 := cmpi .ne v60 v61
  have v63 : IVec M 1 := andi v58 v62
  let c1_i32_15 : BitVec 32 := 1#32
  have v64 : IVec M 32 := broadcast M c1_i32_15
  have v65 : IVec M 32 := subi v44 v64
  have v66 : IVec M 32 := select v63 v65 v44
  let c4_i32 : BitVec 32 := 4#32
  let c0_i32_16 : BitVec 32 := 0#32
  let v67 : BitVec 1 := Scalar.cmpi .eq c4_i32 c0_i32_16
  let c1_i32_17 : BitVec 32 := 1#32
  let v68 : BitVec 32 := Scalar.select v67 c1_i32_17 c4_i32
  have v69 : IVec M 32 := broadcast M v68
  have v70 : IVec M 32 := remsi v66 v69
  let c0_i32_18 : BitVec 32 := 0#32
  have v71 : IVec M 32 := broadcast M c0_i32_18
  have v72 : IVec M 1 := cmpi .ne v70 v71
  let c0_i32_19 : BitVec 32 := 0#32
  have v73 : IVec M 32 := broadcast M c0_i32_19
  have v74 : IVec M 1 := cmpi .slt v70 v73
  let c0_i32_20 : BitVec 32 := 0#32
  let v75 : BitVec 1 := Scalar.cmpi .slt v68 c0_i32_20
  have v76 : IVec M 1 := broadcast M v75
  have v77 : IVec M 1 := broadcastTo M v76
  have v78 : IVec M 1 := xori v74 v77
  have v79 : IVec M 1 := andi v78 v72
  have v80 : IVec M 32 := broadcast M v68
  have v81 : IVec M 32 := addi v70 v80
  have v82 : IVec M 32 := select v79 v81 v70
  let c8_i32_21 : BitVec 32 := 8#32
  have v83 : IVec M 32 := broadcast M c8_i32_21
  have v84 : IVec M 32 := divsi v1 v83
  let c0_i32_22 : BitVec 32 := 0#32
  have v85 : IVec M 32 := broadcast M c0_i32_22
  have v86 : IVec M 1 := cmpi .sgt v1 v85
  have v87 : IVec M 32 := extui 32 v86
  let c0_i32_23 : BitVec 32 := 0#32
  have v88 : IVec M 32 := broadcast M c0_i32_23
  have v89 : IVec M 1 := cmpi .slt v1 v88
  have v90 : IVec M 32 := extui 32 v89
  have v91 : IVec M 32 := subi v87 v90
  let c0_i32_24 : BitVec 32 := 0#32
  let v92 : BitVec 1 := Scalar.cmpi .sgt c8_i32_21 c0_i32_24
  let v93 : BitVec 32 := Scalar.extui v92
  let c0_i32_25 : BitVec 32 := 0#32
  let v94 : BitVec 1 := Scalar.cmpi .slt c8_i32_21 c0_i32_25
  let v95 : BitVec 32 := Scalar.extui v94
  let v96 : BitVec 32 := Scalar.subi v93 v95
  have v97 : IVec M 32 := broadcast M v96
  have v98 : IVec M 1 := cmpi .ne v91 v97
  have v99 : IVec M 32 := broadcast M c8_i32_21
  have v100 : IVec M 32 := remsi v1 v99
  let c0_i32_26 : BitVec 32 := 0#32
  have v101 : IVec M 32 := broadcast M c0_i32_26
  have v102 : IVec M 1 := cmpi .ne v100 v101
  have v103 : IVec M 1 := andi v98 v102
  let c1_i32_27 : BitVec 32 := 1#32
  have v104 : IVec M 32 := broadcast M c1_i32_27
  have v105 : IVec M 32 := subi v84 v104
  have v106 : IVec M 32 := select v103 v105 v84
  have v107 : IVec M 1 := cmpi .eq v82 v106
  have v108 : IVec M 1 := andi v42 v107
  v108

/-- The matrix that spreads a row's eight scales over the 256 columns, as the body computes it. -/
def spreadF : FVec F M8 .bf16 :=
  have v109 : IVec M8 32 := iota .tc M8 32 [1]
  let c8_i32_28 : BitVec 32 := 8#32
  let c0_i32_29 : BitVec 32 := 0#32
  let v110 : BitVec 1 := Scalar.cmpi .eq c8_i32_28 c0_i32_29
  let c1_i32_30 : BitVec 32 := 1#32
  let v111 : BitVec 32 := Scalar.select v110 c1_i32_30 c8_i32_28
  have v112 : IVec M8 32 := broadcast M8 v111
  have v113 : IVec M8 32 := remsi v109 v112
  let c0_i32_31 : BitVec 32 := 0#32
  have v114 : IVec M8 32 := broadcast M8 c0_i32_31
  have v115 : IVec M8 1 := cmpi .ne v113 v114
  let c0_i32_32 : BitVec 32 := 0#32
  have v116 : IVec M8 32 := broadcast M8 c0_i32_32
  have v117 : IVec M8 1 := cmpi .slt v113 v116
  let c0_i32_33 : BitVec 32 := 0#32
  let v118 : BitVec 1 := Scalar.cmpi .slt v111 c0_i32_33
  have v119 : IVec M8 1 := broadcast M8 v118
  have v120 : IVec M8 1 := broadcastTo M8 v119
  have v121 : IVec M8 1 := xori v117 v120
  have v122 : IVec M8 1 := andi v121 v115
  have v123 : IVec M8 32 := broadcast M8 v111
  have v124 : IVec M8 32 := addi v113 v123
  have v125 : IVec M8 32 := select v122 v124 v113
  have v126 : IVec M8 32 := iota .tc M8 32 [0]
  have v127 : IVec M8 1 := cmpi .eq v125 v126
  have v128 : IVec M8 32 := extui 32 v127
  have v129 : FVec F M8 .f32 := sitofp .f32 v128
  have v130 : FVec F M8 .bf16 := truncf .bf16 v129
  v130

/-- The scales, spread. -/
def scalesF : FVec F M .f32 :=
  matmul dotA none (truncf .bf16 (shapeCast SS s)) spreadF (constant M .f32 0x00000000#32)

theorem slicesT (n : ℕ) : M.Slices ![8 * (n % 4), 128 * (n / 4 % 2)] T8 := ⟨rfl, fun a => by
  match a with
  | 0 => show 8 * (n % 4) + 8 ≤ 32; omega
  | 1 => show 128 * (n / 4 % 2) + 128 ≤ 256; omega⟩

theorem slicesM (g : ℕ) : M.Slices ![8 * (g % 4), 0] M8 := ⟨rfl, fun a => by
  match a with
  | 0 => show 8 * (g % 4) + 8 ≤ 32; omega
  | 1 => exact Nat.le_refl 256⟩

theorem cat4M : Shape.Concatenates [M8, M8, M8, M8] M 0 := by decide
theorem cat2C : Shape.Concatenates [C8, C8] CC 1 := by decide
theorem cat4T : Shape.Concatenates [T8, T8, T8, T8] SQ 0 := by decide

/-- Row group `g`'s left operand: the group's scales, four times, under the mask. -/
def lhsF (g : ℕ) : FVec F M .bf16 :=
  truncf .bf16 (select maskF
    (concatenate M 0 [⟨M8, extractStridedSlice M8 ![8 * (g % 4), 0] (scalesF s) (slicesM g)⟩, ⟨M8, extractStridedSlice M8 ![8 * (g % 4), 0] (scalesF s) (slicesM g)⟩,
      ⟨M8, extractStridedSlice M8 ![8 * (g % 4), 0] (scalesF s) (slicesM g)⟩, ⟨M8, extractStridedSlice M8 ![8 * (g % 4), 0] (scalesF s) (slicesM g)⟩] cat4M)
    (broadcast M (Scalar.ofBits .f32 0x00000000#32)))

/-- Chunk `c` of row group `g`: eight tiles of 128 columns in one product. -/
def accF (g c : ℕ) : FVec F M .f32 :=
  matmul dotB none (lhsF s g)
    (concatenate CC 1 [⟨C8, shapeCast C8 (shapeCast B8 (blockP p g (2 * c)))⟩, ⟨C8, shapeCast C8 (shapeCast B8 (blockP p g (2 * c + 1)))⟩] cat2C)
    (constant M .f32 0x00000000#32)

/-- The new residual's tile `n`, rounded. -/
def rT (g n : ℕ) : FVec F T8 .bf16 :=
  truncf .bf16 (addf (addf (extractStridedSlice T8 ![8 * (n % 4), 128 * (n / 4 % 2)] (accF p s g (n / 8)) (slicesT n))
    (broadcastTo T8 (shapeCast T1 (tile1 b n)))) (extf .f32 (shapeCast T8 (tile8 x g n))))

/-- The same, widened again. -/
def r32T (g n : ℕ) : FVec F T8 .f32 := extf .f32 (rT p s b x g n)

def wT (g n : ℕ) : FVec F T8 .f32 := shapeCast T8 (r32T p s b x g n)

/-- The squares of the first `n` tiles, added up lane by lane. -/
def ssF (g : ℕ) : ℕ → FVec F T8 .f32
  | 0 => broadcast T8 (Scalar.ofBits .f32 0x00000000#32)
  | n + 1 => addf (ssF g n) (mulf (r32T p s b x g n) (r32T p s b x g n))

/-- The rows' factors. -/
def rsF (g : ℕ) : FVec F T8 .f32 :=
  broadcastTo T8 (shapeCast L8 (rsqrt (addf (mulf (shapeCast L8 (multiReduction .add [1] V8 (ssF p s b x g 128) 0x00000000#32))
    (broadcast L8 (Scalar.ofBits .f32 0x38800000#32))) (broadcast L8 (Scalar.ofBits .f32 0x358637BD#32)))))

/-- Tile `n`, scaled by its rows' factors and its columns' gains. -/
def yT (g n : ℕ) : FVec F T8 .f32 :=
  mulf (mulf (wT p s b x g n) (rsF p s b x g)) (broadcastTo T8 (shapeCast T1 (tile1 gain n)))

def ysT (g n : ℕ) : FVec F T8 .f32 := shapeCast T8 (yT p s b x gain g n)

/-- The greatest magnitudes of the first `n` tiles, lane by lane. -/
def amF (g : ℕ) : ℕ → FVec F T8 .f32
  | 0 => broadcast T8 (Scalar.ofBits .f32 0x00000000#32)
  | n + 1 => maximumf (amF g n) (absf (yT p s b x gain g n))

/-- The rows' quotients, on every lane. -/
def qF (g : ℕ) : FVec F T8 .f32 :=
  mulf (broadcastTo T8 (shapeCast L8 (shapeCast L8 (multiReduction .maximumf [1] V8 (amF p s b x gain g 128) 0xFF800000#32))))
    (broadcast T8 (Scalar.ofBits .f32 0x3B124925#32))

/-- The exponent of `q`, as the body searches for it. -/
def expF (q : FVec F T8 .f32) : IVec T8 32 :=
  let c0_i32_1796 : BitVec 32 := 0#32
  have v3869 : IVec T8 32 := broadcast T8 c0_i32_1796
  let c128_i32 : BitVec 32 := 128#32
  have v3870 : IVec T8 32 := broadcast T8 c128_i32
  have v3871 : IVec T8 32 := addi v3869 v3870
  let c23_i32 : BitVec 32 := 23#32
  have v3872 : IVec T8 32 := broadcast T8 c23_i32
  have v3873 : IVec T8 32 := shli v3871 v3872
  have v3874 : FVec F T8 .f32 := bitcastToFloat .f32 v3873
  have v3875 : IVec T8 1 := cmpf .oge q v3874
  have v3876 : IVec T8 32 := select v3875 v3871 v3869
  let c64_i32 : BitVec 32 := 64#32
  have v3877 : IVec T8 32 := broadcast T8 c64_i32
  have v3878 : IVec T8 32 := addi v3876 v3877
  let c23_i32_1797 : BitVec 32 := 23#32
  have v3879 : IVec T8 32 := broadcast T8 c23_i32_1797
  have v3880 : IVec T8 32 := shli v3878 v3879
  have v3881 : FVec F T8 .f32 := bitcastToFloat .f32 v3880
  have v3882 : IVec T8 1 := cmpf .oge q v3881
  have v3883 : IVec T8 32 := select v3882 v3878 v3876
  let c32_i32_1798 : BitVec 32 := 32#32
  have v3884 : IVec T8 32 := broadcast T8 c32_i32_1798
  have v3885 : IVec T8 32 := addi v3883 v3884
  let c23_i32_1799 : BitVec 32 := 23#32
  have v3886 : IVec T8 32 := broadcast T8 c23_i32_1799
  have v3887 : IVec T8 32 := shli v3885 v3886
  have v3888 : FVec F T8 .f32 := bitcastToFloat .f32 v3887
  have v3889 : IVec T8 1 := cmpf .oge q v3888
  have v3890 : IVec T8 32 := select v3889 v3885 v3883
  let c16_i32 : BitVec 32 := 16#32
  have v3891 : IVec T8 32 := broadcast T8 c16_i32
  have v3892 : IVec T8 32 := addi v3890 v3891
  let c23_i32_1800 : BitVec 32 := 23#32
  have v3893 : IVec T8 32 := broadcast T8 c23_i32_1800
  have v3894 : IVec T8 32 := shli v3892 v3893
  have v3895 : FVec F T8 .f32 := bitcastToFloat .f32 v3894
  have v3896 : IVec T8 1 := cmpf .oge q v3895
  have v3897 : IVec T8 32 := select v3896 v3892 v3890
  let c8_i32_1801 : BitVec 32 := 8#32
  have v3898 : IVec T8 32 := broadcast T8 c8_i32_1801
  have v3899 : IVec T8 32 := addi v3897 v3898
  let c23_i32_1802 : BitVec 32 := 23#32
  have v3900 : IVec T8 32 := broadcast T8 c23_i32_1802
  have v3901 : IVec T8 32 := shli v3899 v3900
  have v3902 : FVec F T8 .f32 := bitcastToFloat .f32 v3901
  have v3903 : IVec T8 1 := cmpf .oge q v3902
  have v3904 : IVec T8 32 := select v3903 v3899 v3897
  let c4_i32_1803 : BitVec 32 := 4#32
  have v3905 : IVec T8 32 := broadcast T8 c4_i32_1803
  have v3906 : IVec T8 32 := addi v3904 v3905
  let c23_i32_1804 : BitVec 32 := 23#32
  have v3907 : IVec T8 32 := broadcast T8 c23_i32_1804
  have v3908 : IVec T8 32 := shli v3906 v3907
  have v3909 : FVec F T8 .f32 := bitcastToFloat .f32 v3908
  have v3910 : IVec T8 1 := cmpf .oge q v3909
  have v3911 : IVec T8 32 := select v3910 v3906 v3904
  let c2_i32 : BitVec 32 := 2#32
  have v3912 : IVec T8 32 := broadcast T8 c2_i32
  have v3913 : IVec T8 32 := addi v3911 v3912
  let c23_i32_1805 : BitVec 32 := 23#32
  have v3914 : IVec T8 32 := broadcast T8 c23_i32_1805
  have v3915 : IVec T8 32 := shli v3913 v3914
  have v3916 : FVec F T8 .f32 := bitcastToFloat .f32 v3915
  have v3917 : IVec T8 1 := cmpf .oge q v3916
  have v3918 : IVec T8 32 := select v3917 v3913 v3911
  let c1_i32_1806 : BitVec 32 := 1#32
  have v3919 : IVec T8 32 := broadcast T8 c1_i32_1806
  have v3920 : IVec T8 32 := addi v3918 v3919
  let c23_i32_1807 : BitVec 32 := 23#32
  have v3921 : IVec T8 32 := broadcast T8 c23_i32_1807
  have v3922 : IVec T8 32 := shli v3920 v3921
  have v3923 : FVec F T8 .f32 := bitcastToFloat .f32 v3922
  have v3924 : IVec T8 1 := cmpf .oge q v3923
  have v3925 : IVec T8 32 := select v3924 v3920 v3918
  let c0_i32_1808 : BitVec 32 := 0#32
  have v3926 : IVec T8 32 := broadcast T8 c0_i32_1808
  have v3927 : IVec T8 1 := cmpi .eq v3925 v3926
  let c255_i32 : BitVec 32 := 255#32
  have v3928 : IVec T8 32 := broadcast T8 c255_i32
  have v3929 : IVec T8 1 := cmpi .eq v3925 v3928
  have v3930 : IVec T8 1 := ori v3927 v3929
  let c126_i32 : BitVec 32 := 126#32
  have v3931 : IVec T8 32 := broadcast T8 c126_i32
  have v3932 : IVec T8 32 := subi v3925 v3931
  let c0_i32_1809 : BitVec 32 := 0#32
  have v3933 : IVec T8 32 := broadcast T8 c0_i32_1809
  have v3934 : IVec T8 32 := select v3930 v3933 v3932
  v3934

/-- Two to the exponent's negative, and to the exponent. -/
def invF (q : FVec F T8 .f32) : FVec F T8 .f32 := bitcastToFloat .f32 (shli (subi (broadcast T8 127#32) (expF q)) (broadcast T8 23#32))
def sclF (q : FVec F T8 .f32) : FVec F T8 .f32 := bitcastToFloat .f32 (shli (addi (broadcast T8 127#32) (expF q)) (broadcast T8 23#32))

def zT (g n : ℕ) : FVec F T8 .f32 :=
  shapeCast T8 (mulf (ysT p s b x gain g n) (invF (qF p s b x gain g)))

/-- The scaled array whole. -/
def zF : Vec F SX .f32 := fun i => zT p s b x gain ((i 0).val / 8) ((i 1).val / 128) (atT (i 0).val (i 1).val)

/-- The codes of column tile `n`. -/
def cT (n : ℕ) : FVec F SQ .fp8e4m3 :=
  truncf .fp8e4m3 (minimumf (broadcast SQ (Scalar.ofBits .f32 0x43E00000#32)) (maximumf (broadcast SQ (Scalar.ofBits .f32 0xC3E00000#32)) (tileQ (zF p s b x gain) n)))

/-- The three results: the residual, the codes, the scales. -/
def out6 : Vec F SX .bf16 := fun i => rT p s b x ((i 0).val / 8) ((i 1).val / 128) (atT (i 0).val (i 1).val)
def out7 : Vec F SX .fp8e4m3 := fun i => cT p s b x gain ((i 1).val / 128) (atQ (i 0).val (i 1).val)
def out8 : Vec F SQ .f32 :=
  concatenate SQ 0 [⟨T8, sclF (qF p s b x gain 0)⟩, ⟨T8, sclF (qF p s b x gain 1)⟩, ⟨T8, sclF (qF p s b x gain 2)⟩, ⟨T8, sclF (qF p s b x gain 3)⟩] cat4T

end Values

end Recv
-- ==== Proof.Steps.lean ====
/- The body's steps a tile at a time: each rule takes a program over one tile's loads and stores. -/
module

public import proofs.«01_k».proof.Proof.Tiles

@[expose] public section

set_option maxRecDepth 16384

noncomputable section

namespace Recv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels} {F : FTy → Type} [FloatOps F]
variable {defs : Defs nD τ sig (Elt F) Λ} {c : Dev nD} {E : Set ℕ}
  {M1 : Memref sig .tc .vmem SP .fp8e4m3} {M2 : Memref sig .tc .vmem SS .f32} {M3 : Memref sig .tc .vmem SR .f32}
  {M4 : Memref sig .tc .vmem SX .bf16} {M5 : Memref sig .tc .vmem SR .f32} {M6 : Memref sig .tc .vmem SX .bf16}
  {M7 : Memref sig .tc .vmem SX .fp8e4m3} {M8' : Memref sig .tc .vmem SQ .f32} {M9 : Memref sig .tc .vmem SX .f32}
  {x1 : Vec F SP .fp8e4m3} {x2 : Vec F SS .f32} {x3 : Vec F SR .f32} {x4 : Vec F SX .bf16} {x5 : Vec F SR .f32}
  {x6 : Vec F SX .bf16} {x7 : Vec F SX .fp8e4m3} {x8 : Vec F SQ .f32} {x9 : Vec F SX .f32}
  {R : sProp (MT nD τ sig Unit (Elt F) ℕ (UR sig nD τ) ℕ)} {K : PUnit.{1} → sProp (MT nD τ sig Unit (Elt F) ℕ (UR sig nD τ) ℕ)}

variable {g n : ℕ}

/-- Stop at a program that begins with an effect. -/
theorem peek {β : Type} {e : TpuEff nD τ sig (Elt F) Λ .tc β} {k : β → Prog (TpuEff nD τ sig (Elt F) Λ .tc) PUnit.{1}} (h : Safe defs c E M1 M2 M3 M4 M5 M6 M7 M8' M9 x1 x2 x3 x4 x5 x6 x7 x8 x9 R K (.op e k)) : Safe defs c E M1 M2 M3 M4 M5 M6 M7 M8' M9 x1 x2 x3 x4 x5 x6 x7 x8 x9 R K (.op e k) := h

/-- Begin to write over row group `g`. -/
theorem start6 (t : ℕ → ℕ → T8.Idx → Elt F .bf16) (g : ℕ) {q : Prog (TpuEff nD τ sig (Elt F) Λ .tc) PUnit.{1}} (h : Safe defs c E M1 M2 M3 M4 M5 M6 M7 M8' M9 x1 x2 x3 x4 x5 (over t x6 g 0) x7 x8 x9 R K q) : Safe defs c E M1 M2 M3 M4 M5 M6 M7 M8' M9 x1 x2 x3 x4 x5 x6 x7 x8 x9 R K q := by
  rwa [over_zero] at h
theorem start9 (t : ℕ → ℕ → T8.Idx → Elt F .f32) (g : ℕ) {q : Prog (TpuEff nD τ sig (Elt F) Λ .tc) PUnit.{1}} (h : Safe defs c E M1 M2 M3 M4 M5 M6 M7 M8' M9 x1 x2 x3 x4 x5 x6 x7 x8 (over t x9 g 0) R K q) : Safe defs c E M1 M2 M3 M4 M5 M6 M7 M8' M9 x1 x2 x3 x4 x5 x6 x7 x8 x9 R K q := by
  rwa [over_zero] at h
theorem start7 (t : ℕ → SQ.Idx → Elt F .fp8e4m3) {q : Prog (TpuEff nD τ sig (Elt F) Λ .tc) PUnit.{1}} (h : Safe defs c E M1 M2 M3 M4 M5 M6 M7 M8' M9 x1 x2 x3 x4 x5 x6 (overQ t x7 0) x8 x9 R K q) : Safe defs c E M1 M2 M3 M4 M5 M6 M7 M8' M9 x1 x2 x3 x4 x5 x6 x7 x8 x9 R K q := by
  rwa [overQ_zero] at h
theorem turn9 {x9' : Vec F SX .f32} (e : x9 = x9') {q : Prog (TpuEff nD τ sig (Elt F) Λ .tc) PUnit.{1}} (h : Safe defs c E M1 M2 M3 M4 M5 M6 M7 M8' M9 x1 x2 x3 x4 x5 x6 x7 x8 x9' R K q) : Safe defs c E M1 M2 M3 M4 M5 M6 M7 M8' M9 x1 x2 x3 x4 x5 x6 x7 x8 x9 R K q := by
  rwa [e]

theorem turn6 {x6' : Vec F SX .bf16} (e : x6 = x6') {q : Prog (TpuEff nD τ sig (Elt F) Λ .tc) PUnit.{1}} (h : Safe defs c E M1 M2 M3 M4 M5 M6 M7 M8' M9 x1 x2 x3 x4 x5 x6' x7 x8 x9 R K q) : Safe defs c E M1 M2 M3 M4 M5 M6 M7 M8' M9 x1 x2 x3 x4 x5 x6 x7 x8 x9 R K q := by
  rwa [e]
theorem turn7 {x7' : Vec F SX .fp8e4m3} (e : x7 = x7') {q : Prog (TpuEff nD τ sig (Elt F) Λ .tc) PUnit.{1}} (h : Safe defs c E M1 M2 M3 M4 M5 M6 M7 M8' M9 x1 x2 x3 x4 x5 x6 x7' x8 x9 R K q) : Safe defs c E M1 M2 M3 M4 M5 M6 M7 M8' M9 x1 x2 x3 x4 x5 x6 x7 x8 x9 R K q := by
  rwa [e]

/-- Four row groups written over, once. -/
theorem nest1 {α : Type} (t : ℕ → ℕ → T8.Idx → α) (X : SX.Idx → α) :
    over t (over t (over t (over t X 0 128) 1 128) 2 128) 3 128 = fun i => t ((i 0).val / 8) ((i 1).val / 128) (atT (i 0).val (i 1).val) := by
  refine over_full t X _ fun i hi => ?_
  by_cases h2 : (i 0).val / 8 = 2
  · exact over_eq t _ 2 i h2
  rw [over_lt t _ 2 i h2]
  by_cases h1 : (i 0).val / 8 = 1
  · exact over_eq t _ 1 i h1
  rw [over_lt t _ 1 i h1]
  exact over_eq t _ 0 i (by omega)

/-- Four row groups written over, three times each. -/
theorem nest3 {α : Type} (t t' t'' : ℕ → ℕ → T8.Idx → α) (X : SX.Idx → α) :
    over t (over t' (over t'' (over t (over t' (over t'' (over t (over t' (over t'' (over t (over t' (over t'' X 0 128) 0 128) 0 128)
      1 128) 1 128) 1 128) 2 128) 2 128) 2 128) 3 128) 3 128) 3 128 = fun i => t ((i 0).val / 8) ((i 1).val / 128) (atT (i 0).val (i 1).val) := by
  refine over_full t X _ fun i hi => ?_
  rw [over_lt t' _ 3 i (by omega), over_lt t'' _ 3 i (by omega)]
  by_cases h2 : (i 0).val / 8 = 2
  · exact over_eq t _ 2 i h2
  rw [over_lt t _ 2 i h2, over_lt t' _ 2 i h2, over_lt t'' _ 2 i h2]
  by_cases h1 : (i 0).val / 8 = 1
  · exact over_eq t _ 1 i h1
  rw [over_lt t _ 1 i h1, over_lt t' _ 1 i h1, over_lt t'' _ 1 i h1]
  exact over_eq t _ 0 i (by omega)

/-- The two blocks of a chunk. -/
theorem chunk {X9 : Vec F SX .f32} {t : ℕ → ℕ → T8.Idx → Elt F .f32} {i1 i2 l1 l2} {k : Vec F B8 .fp8e4m3 → Vec F B8 .fp8e4m3 → Prog (TpuEff nD τ sig (Elt F) Λ .tc) PUnit.{1}}
    (h : Safe defs c E M1 M2 M3 M4 M5 M6 M7 M8' M9 x1 x2 x3 x4 x5 x6 x7 x8 (over t X9 g n) R K (k (blockP x1 g (2 * (n / 8))) (blockP x1 g (2 * (n / 8) + 1)))) :
    Safe defs c E M1 M2 M3 M4 M5 M6 M7 M8' M9 x1 x2 x3 x4 x5 x6 x7 x8 (over t X9 g n) R K
      (.op (.load M1 (Rect.unit (s := SP) ![8 * g, 32 * (2 * (n / 8)), 0] B8.size i1).toLoadRect l1) fun v1 =>
       .op (.load M1 (Rect.unit (s := SP) ![8 * g, 32 * (2 * (n / 8) + 1), 0] B8.size i2).toLoadRect l2) fun v2 => k v1 v2) := by
  exact load1 (ldP x1 i1) (load1 (ldP x1 i2) h)

/-- A residual tile: its value `W` is stored, and `W'` of it goes to the scratch. -/
theorem resid {X6 : Vec F SX .bf16} {X9 : Vec F SX .f32} {t6 : ℕ → ℕ → T8.Idx → Elt F .bf16} {t9 : ℕ → ℕ → T8.Idx → Elt F .f32}
    {i3 i4 i6 i6' i9 i9' l3 l4 l6 l9 s6 s9 m6 m9}
    {W : Vec F T1 .f32 → Vec F T8 .bf16 → Vec F T8 .bf16} {W' : Vec F T1 .f32 → Vec F T8 .bf16 → Vec F T8 .f32}
    {k : Vec F T1 .f32 → Vec F T8 .bf16 → Vec F T8 .bf16 → Vec F T8 .f32 → Prog (TpuEff nD τ sig (Elt F) Λ .tc) PUnit.{1}}
    (hW : W (tile1 x3 n) (tile8 x4 g n) = t6 g n) (hW' : W' (tile1 x3 n) (tile8 x4 g n) = t9 g n)
    (h : Safe defs c E M1 M2 M3 M4 M5 M6 M7 M8' M9 x1 x2 x3 x4 x5 (over t6 X6 g (n + 1)) x7 x8 (over t9 X9 g (n + 1)) R K (k (tile1 x3 n) (tile8 x4 g n) (tile8 X6 g n) (tile8 X9 g n))) :
    Safe defs c E M1 M2 M3 M4 M5 M6 M7 M8' M9 x1 x2 x3 x4 x5 (over t6 X6 g n) x7 x8 (over t9 X9 g n) R K
      (.op (.load M3 (Rect.unit (s := SR) ![0, 128 * n] T1.size i3).toLoadRect l3) fun v1 =>
       .op (.load M4 (Rect.unit (s := SX) ![8 * g, 128 * n] T8.size i4).toLoadRect l4) fun v2 =>
       .op (.load M6 (Rect.unit (s := SX) ![8 * g, 128 * n] T8.size i6).toLoadRect l6) fun v3 =>
       .op (.store M6 (Rect.unit (s := SX) ![8 * g, 128 * n] T8.size i6') (W v1 v2) Finset.univ s6 m6) fun _ =>
       .op (.load M9 (Rect.unit (s := SX) ![8 * g, 128 * n] T8.size i9).toLoadRect l9) fun v4 =>
       .op (.store M9 (Rect.unit (s := SX) ![8 * g, 128 * n] T8.size i9') (W' v1 v2) Finset.univ s9 m9) fun _ => k v1 v2 v3 v4) := by
  refine load3 (ld1 x3 i3) (load4 (ld8 x4 i4) (load6 ((ld8 _ i6).trans (tile8_ge _ _ i6)) ?_))
  refine store6 (overlay_over t6 X6 i6' _ hW) (load9 ((ld8 _ i9).trans (tile8_ge _ _ i9)) ?_)
  exact store9 (overlay_over t9 X9 i9' _ hW') h

/-- A tile of the scaled array, read back from the residual's. -/
theorem ytile {X9 : Vec F SX .f32} {t t9 : ℕ → ℕ → T8.Idx → Elt F .f32}
    {i5 i9 i9' i9'' l5 l9 l9' s9 m9}
    {W : Vec F T8 .f32 → Vec F T1 .f32 → Vec F T8 .f32}
    {k : Vec F T8 .f32 → Vec F T1 .f32 → Vec F T8 .f32 → Prog (TpuEff nD τ sig (Elt F) Λ .tc) PUnit.{1}}
    (hW : W (t g n) (tile1 x5 n) = t9 g n)
    (h : Safe defs c E M1 M2 M3 M4 M5 M6 M7 M8' M9 x1 x2 x3 x4 x5 x6 x7 x8 (over t9 (over t X9 g 128) g (n + 1)) R K (k (t g n) (tile1 x5 n) (t g n))) :
    Safe defs c E M1 M2 M3 M4 M5 M6 M7 M8' M9 x1 x2 x3 x4 x5 x6 x7 x8 (over t9 (over t X9 g 128) g n) R K
      (.op (.load M9 (Rect.unit (s := SX) ![8 * g, 128 * n] T8.size i9).toLoadRect l9) fun v1 =>
       .op (.load M5 (Rect.unit (s := SR) ![0, 128 * n] T1.size i5).toLoadRect l5) fun v2 =>
       .op (.load M9 (Rect.unit (s := SX) ![8 * g, 128 * n] T8.size i9'').toLoadRect l9') fun v3 =>
       .op (.store M9 (Rect.unit (s := SX) ![8 * g, 128 * n] T8.size i9') (W v1 v2) Finset.univ s9 m9) fun _ => k v1 v2 v3) := by
  have e9 := (ld8 (over t9 (over t X9 g 128) g n) i9).trans ((tile8_ge _ _ i9).trans (tile8_full t X9 i9))
  refine load9 e9 (load5 (ld1 x5 i5) (load9 e9 ?_))
  exact store9 (overlay_over t9 _ i9' _ hW) h

/-- A tile brought onto its rows' powers of two. -/
theorem ztile {X9 : Vec F SX .f32} {t t9 : ℕ → ℕ → T8.Idx → Elt F .f32}
    {i9 i9' i9'' l9 l9' s9 m9}
    {W : Vec F T8 .f32 → Vec F T8 .f32}
    {k : Vec F T8 .f32 → Vec F T8 .f32 → Prog (TpuEff nD τ sig (Elt F) Λ .tc) PUnit.{1}}
    (hW : W (t g n) = t9 g n)
    (h : Safe defs c E M1 M2 M3 M4 M5 M6 M7 M8' M9 x1 x2 x3 x4 x5 x6 x7 x8 (over t9 (over t X9 g 128) g (n + 1)) R K (k (t g n) (t g n))) :
    Safe defs c E M1 M2 M3 M4 M5 M6 M7 M8' M9 x1 x2 x3 x4 x5 x6 x7 x8 (over t9 (over t X9 g 128) g n) R K
      (.op (.load M9 (Rect.unit (s := SX) ![8 * g, 128 * n] T8.size i9).toLoadRect l9) fun v1 =>
       .op (.load M9 (Rect.unit (s := SX) ![8 * g, 128 * n] T8.size i9'').toLoadRect l9') fun v2 =>
       .op (.store M9 (Rect.unit (s := SX) ![8 * g, 128 * n] T8.size i9') (W v1) Finset.univ s9 m9) fun _ => k v1 v2) := by
  have e9 := (ld8 (over t9 (over t X9 g 128) g n) i9).trans ((tile8_ge _ _ i9).trans (tile8_full t X9 i9))
  refine load9 e9 (load9 e9 ?_)
  exact store9 (overlay_over t9 _ i9' _ hW) h

/-- A tile of the codes. -/
theorem ctile {X7 : Vec F SX .fp8e4m3} {t7 : ℕ → SQ.Idx → Elt F .fp8e4m3}
    {i7 i7' i9 l7 l9 s7 m7}
    {W : Vec F SQ .f32 → Vec F SQ .fp8e4m3}
    {k : Vec F SQ .f32 → Vec F SQ .fp8e4m3 → Prog (TpuEff nD τ sig (Elt F) Λ .tc) PUnit.{1}}
    (hW : W (tileQ x9 n) = t7 n)
    (h : ∀ v, Safe defs c E M1 M2 M3 M4 M5 M6 M7 M8' M9 x1 x2 x3 x4 x5 x6 (overQ t7 X7 (n + 1)) x8 x9 R K (k (tileQ x9 n) v)) :
    Safe defs c E M1 M2 M3 M4 M5 M6 M7 M8' M9 x1 x2 x3 x4 x5 x6 (overQ t7 X7 n) x8 x9 R K
      (.op (.load M9 (Rect.unit (s := SX) ![0, 128 * n] SQ.size i9).toLoadRect l9) fun v1 =>
       .op (.load M7 (Rect.unit (s := SX) ![0, 128 * n] SQ.size i7).toLoadRect l7) fun v2 =>
       .op (.store M7 (Rect.unit (s := SX) ![0, 128 * n] SQ.size i7') (W v1) Finset.univ s7 m7) fun _ => k v1 v2) := by
  refine load9 (ldQ _ i9) (load7 rfl ?_)
  exact store7 (overlay_overQ t7 _ i7' _ hW) (h _)

/-- The scales' store, the body's last. -/
theorem stile {i8 i8' l8 s8 m8} {w : Vec F SQ .f32} {w' : Vec F SQ .f32} {k : Vec F SQ .f32 → Prog (TpuEff nD τ sig (Elt F) Λ .tc) PUnit.{1}}
    (hw : w = w') (h : ∀ v, Safe defs c E M1 M2 M3 M4 M5 M6 M7 M8' M9 x1 x2 x3 x4 x5 x6 x7 w' x9 R K (k v)) :
    Safe defs c E M1 M2 M3 M4 M5 M6 M7 M8' M9 x1 x2 x3 x4 x5 x6 x7 x8 x9 R K
      (.op (.load M8' (Rect.unit (s := SQ) ![0, 0] SQ.size i8).toLoadRect l8) fun v =>
       .op (.store M8' (Rect.unit (s := SQ) ![0, 0] SQ.size i8') w Finset.univ s8 m8) fun _ => k v) := by
  subst hw
  refine load8 rfl ?_
  exact store8 (overlay_whole _ _ i8') (h _)

end Recv
-- ==== Proof.BodyK.lean ====
/- The kernel's whole body, stepped through tile by tile. -/
module

public import proofs.«01_k».proof.Proof.Steps
public import proofs.«01_k».proof.Kernel

@[expose] public section

set_option maxRecDepth 16384
noncomputable section

namespace Recv.K
open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

set_option maxHeartbeats 40000000 in
/-- The body, a tile at a time. -/
theorem body (defs : Defs nD τ sig (Elt F) Λ₀) (c : Dev nD) (E : Set ℕ) (i : grid0.Coords)
  (M1 : Memref sig .tc .vmem SP .fp8e4m3) (h1 : M1.IsWhole) (M2 : Memref sig .tc .vmem SS .f32) (h2 : M2.IsWhole) (M3 : Memref sig .tc .vmem SR .f32) (h3 : M3.IsWhole)
  (M4 : Memref sig .tc .vmem SX .bf16) (h4 : M4.IsWhole) (M5 : Memref sig .tc .vmem SR .f32) (h5 : M5.IsWhole) (M6 : Memref sig .tc .vmem SX .bf16) (h6 : M6.IsWhole)
  (M7 : Memref sig .tc .vmem SX .fp8e4m3) (h7 : M7.IsWhole) (M8 : Memref sig .tc .vmem SQ .f32) (h8 : M8.IsWhole) (M9 : Memref sig .tc .vmem SX .f32) (h9 : M9.IsWhole)
  (x1 : Vec F SP .fp8e4m3) (x2 : Vec F SS .f32) (x3 : Vec F SR .f32) (x4 : Vec F SX .bf16) (x5 : Vec F SR .f32)
  (x6 : Vec F SX .bf16) (x7 : Vec F SX .fp8e4m3) (x8 : Vec F SQ .f32) (x9 : Vec F SX .f32)
  (R : sProp (MT nD τ sig Unit (Elt F) ℕ (UR sig nD τ) ℕ)) (K : PUnit.{1} → sProp (MT nD τ sig Unit (Elt F) ℕ (UR sig nD τ) ℕ))
  (h : iprop(Holds c M1 M2 M3 M4 M5 M6 M7 M8 M9 x1 x2 x3 x4 x5 (out6 x1 x2 x3 x4) (out7 x1 x2 x3 x4 x5) (out8 x1 x2 x3 x4 x5) (zF x1 x2 x3 x4 x5) ∗ R) ⊢ K ⟨⟩) :
  Safe defs c E M1 M2 M3 M4 M5 M6 M7 M8 M9 x1 x2 x3 x4 x5 x6 x7 x8 x9 R K (cc0_recv_rmsnorm_quant i M1 h1 M2 h2 M3 h3 M4 h4 M5 h5 M6 h6 M7 h7 M8 h8 M9 h9) := by
  unfold cc0_recv_rmsnorm_quant
  refine load2 (ldS x2 _) ?_
  refine peek ?_
  generalize hm : andi (cmpi .eq _ _) (cmpi .eq _ _) = mk
  obtain rfl : maskF = mk := hm
  generalize hs : (matmul dot_S32x8_S8x256_S32x256_1_0_0_1_n_n none _ _ _ : FVec F M .f32) = sc
  obtain rfl : scalesF x2 = sc := hs
  refine peek ?_
  generalize hl : (truncf .bf16 (select maskF _ _) _ : FVec F M .bf16) = L
  obtain rfl : lhsF x2 0 = L := hl
  refine start6 (rT x1 x2 x3 x4) 0 (start9 (wT x1 x2 x3 x4) 0 ?_)
  iterate 16
    refine chunk ?_
    iterate 8 refine resid (by rfl) (by rfl) ?_
  refine peek ?_
  generalize hr : (broadcastTo T8 (shapeCast S8x1 (rsqrt _) _) _ : FVec F T8 .f32) = rs
  obtain rfl : rsF x1 x2 x3 x4 0 = rs := hr
  refine start9 (ysT x1 x2 x3 x4 x5) 0 ?_
  iterate 128 refine ytile (by rfl) ?_
  generalize he : (select (ori _ _) (broadcast T8 0#32) (subi _ (broadcast T8 126#32)) : IVec T8 32) = e
  obtain rfl : expF (qF x1 x2 x3 x4 x5 0) = e := he
  refine start9 (zT x1 x2 x3 x4 x5) 0 ?_
  iterate 128 refine ztile (by rfl) ?_
  refine peek ?_
  generalize hl : (truncf .bf16 (select maskF _ _) _ : FVec F M .bf16) = L
  obtain rfl : lhsF x2 1 = L := hl
  refine start6 (rT x1 x2 x3 x4) 1 (start9 (wT x1 x2 x3 x4) 1 ?_)
  iterate 16
    refine chunk ?_
    iterate 8 refine resid (by rfl) (by rfl) ?_
  refine peek ?_
  generalize hr : (broadcastTo T8 (shapeCast S8x1 (rsqrt _) _) _ : FVec F T8 .f32) = rs
  obtain rfl : rsF x1 x2 x3 x4 1 = rs := hr
  refine start9 (ysT x1 x2 x3 x4 x5) 1 ?_
  iterate 128 refine ytile (by rfl) ?_
  generalize he : (select (ori _ _) (broadcast T8 0#32) (subi _ (broadcast T8 126#32)) : IVec T8 32) = e
  obtain rfl : expF (qF x1 x2 x3 x4 x5 1) = e := he
  refine start9 (zT x1 x2 x3 x4 x5) 1 ?_
  iterate 128 refine ztile (by rfl) ?_
  refine peek ?_
  generalize hl : (truncf .bf16 (select maskF _ _) _ : FVec F M .bf16) = L
  obtain rfl : lhsF x2 2 = L := hl
  refine start6 (rT x1 x2 x3 x4) 2 (start9 (wT x1 x2 x3 x4) 2 ?_)
  iterate 16
    refine chunk ?_
    iterate 8 refine resid (by rfl) (by rfl) ?_
  refine peek ?_
  generalize hr : (broadcastTo T8 (shapeCast S8x1 (rsqrt _) _) _ : FVec F T8 .f32) = rs
  obtain rfl : rsF x1 x2 x3 x4 2 = rs := hr
  refine start9 (ysT x1 x2 x3 x4 x5) 2 ?_
  iterate 128 refine ytile (by rfl) ?_
  generalize he : (select (ori _ _) (broadcast T8 0#32) (subi _ (broadcast T8 126#32)) : IVec T8 32) = e
  obtain rfl : expF (qF x1 x2 x3 x4 x5 2) = e := he
  refine start9 (zT x1 x2 x3 x4 x5) 2 ?_
  iterate 128 refine ztile (by rfl) ?_
  refine peek ?_
  generalize hl : (truncf .bf16 (select maskF _ _) _ : FVec F M .bf16) = L
  obtain rfl : lhsF x2 3 = L := hl
  refine start6 (rT x1 x2 x3 x4) 3 (start9 (wT x1 x2 x3 x4) 3 ?_)
  iterate 16
    refine chunk ?_
    iterate 8 refine resid (by rfl) (by rfl) ?_
  refine peek ?_
  generalize hr : (broadcastTo T8 (shapeCast S8x1 (rsqrt _) _) _ : FVec F T8 .f32) = rs
  obtain rfl : rsF x1 x2 x3 x4 3 = rs := hr
  refine start9 (ysT x1 x2 x3 x4 x5) 3 ?_
  iterate 128 refine ytile (by rfl) ?_
  generalize he : (select (ori _ _) (broadcast T8 0#32) (subi _ (broadcast T8 126#32)) : IVec T8 32) = e
  obtain rfl : expF (qF x1 x2 x3 x4 x5 3) = e := he
  refine start9 (zT x1 x2 x3 x4 x5) 3 ?_
  iterate 128 refine ztile (by rfl) ?_
  refine turn6 (x6' := out6 x1 x2 x3 x4) (nest1 _ _) (turn9 (x9' := zF x1 x2 x3 x4 x5) (nest3 _ _ _ _) ?_)
  refine start7 (cT x1 x2 x3 x4 x5) ?_
  iterate 128 refine ctile (by rfl) fun _ => ?_
  refine turn7 (x7' := out7 x1 x2 x3 x4 x5) (overQ_full _ _) ?_
  refine stile (w' := out8 x1 x2 x3 x4 x5) (by rfl) fun _ => ?_
  exact safe_ret h

/-- The body turns what its memrefs hold into its three results. -/
theorem run (defs : Defs nD τ sig (Elt F) Λ₀) (c : Dev nD) (E : Set ℕ) (i : grid0.Coords)
  (M1 : Memref sig .tc .vmem SP .fp8e4m3) (h1 : M1.IsWhole) (M2 : Memref sig .tc .vmem SS .f32) (h2 : M2.IsWhole) (M3 : Memref sig .tc .vmem SR .f32) (h3 : M3.IsWhole)
  (M4 : Memref sig .tc .vmem SX .bf16) (h4 : M4.IsWhole) (M5 : Memref sig .tc .vmem SR .f32) (h5 : M5.IsWhole) (M6 : Memref sig .tc .vmem SX .bf16) (h6 : M6.IsWhole)
  (M7 : Memref sig .tc .vmem SX .fp8e4m3) (h7 : M7.IsWhole) (M8 : Memref sig .tc .vmem SQ .f32) (h8 : M8.IsWhole) (M9 : Memref sig .tc .vmem SX .f32) (h9 : M9.IsWhole)
  (x1 : Vec F SP .fp8e4m3) (x2 : Vec F SS .f32) (x3 : Vec F SR .f32) (x4 : Vec F SX .bf16) (x5 : Vec F SR .f32)
  (x6 : Vec F SX .bf16) (x7 : Vec F SX .fp8e4m3) (x8 : Vec F SQ .f32) (x9 : Vec F SX .f32)
  (K : PUnit.{1} → sProp (MT nD τ sig Unit (Elt F) ℕ (UR sig nD τ) ℕ)) :
  iprop(Holds c M1 M2 M3 M4 M5 M6 M7 M8 M9 x1 x2 x3 x4 x5 x6 x7 x8 x9 ∗
      (Holds c M1 M2 M3 M4 M5 M6 M7 M8 M9 x1 x2 x3 x4 x5 (out6 x1 x2 x3 x4) (out7 x1 x2 x3 x4 x5) (out8 x1 x2 x3 x4 x5) (zF x1 x2 x3 x4 x5) -∗ K ⟨⟩))
    ⊢ wp frame (wpE defs Variants.none c none) E (cc0_recv_rmsnorm_quant i M1 h1 M2 h2 M3 h3 M4 h4 M5 h5 M6 h6 M7 h7 M8 h8 M9 h9) K := by
  refine body defs c E i M1 h1 M2 h2 M3 h3 M4 h4 M5 h5 M6 h6 M7 h7 M8 h8 M9 h9 x1 x2 x3 x4 x5 x6 x7 x8 x9 _ K ?_
  iintro ⟨H1, H2⟩
  iapply H2
  iexact H1

end Recv.K
-- ==== Proof.RunK.lean ====
/- The run of Kernel's program: the kernel's body at a grid point, the pipeline's proof data, and @main. -/
module

public import proofs.«01_k».proof.Proof.BodyK
public import proofs.«01_k».proof.Proof.Gen.Kernel.Frame
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen Recv

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks of the five operands at a grid point. -/
abbrev blk1 (c : Dev nD) (t : Fin cfg0.N) : Vec F SP .fp8e4m3 := iblk m c 0 t
abbrev blk2 (c : Dev nD) (t : Fin cfg0.N) : Vec F SS .f32 := iblk m c 1 t
abbrev blk3 (c : Dev nD) (t : Fin cfg0.N) : Vec F SR .f32 := iblk m c 2 t
abbrev blk4 (c : Dev nD) (t : Fin cfg0.N) : Vec F SX .bf16 := iblk m c 3 t
abbrev blk5 (c : Dev nD) (t : Fin cfg0.N) : Vec F SR .f32 := iblk m c 4 t

/-- The pipeline's proof data on core `c`: each operand's buffer keeps its block, each result's holds what the body
    computes of the five blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out6 (blk1 m c t) (blk2 m c t) (blk3 m c t) (blk4 m c t)
    | ⟨6, _⟩ => out7 (blk1 m c t) (blk2 m c t) (blk3 m c t) (blk4 m c t) (blk5 m c t)
    | ⟨7, _⟩ => out8 (blk1 m c t) (blk2 m c t) (blk3 m c t) (blk4 m c t) (blk5 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out6 (blk1 m c t) (blk2 m c t) (blk3 m c t) (blk4 m c t) := by
  dsimp only [dats]
theorem after6 (c : Dev nD) (t : Fin cfg0.N) :
    (dats m 0 c).after 6 t = out7 (blk1 m c t) (blk2 m c t) (blk3 m c t) (blk4 m c t) (blk5 m c t) := by dsimp only [dats]
theorem after7 (c : Dev nD) (t : Fin cfg0.N) :
    (dats m 0 c).after 7 t = out8 (blk1 m c t) (blk2 m c t) (blk3 m c t) (blk4 m c t) (blk5 m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at a point: the operands' buffers hold their blocks, and the scratch is opened and closed again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7]
  unfold Pipeline.ΦA
  rw [scopedRest0_eq]
  iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  icases HS with ⟨%d8, H8⟩
  ihave H8 := (Entails.of_eq (owns_whole (c : Thread nD τ) cc0_scratch0 fullShare d8).symm) $$ H8
  iapply (Recv.K.run (defs₀ (F := F)) c Set.univ (grid0.coords t) _ _ _ _ _ _ _ _ _ _ _ _ _ _ _ _ _ _
    (blk1 m c t) (blk2 m c t) (blk3 m c t) (blk4 m c t) (blk5 m c t) _ _ _ _ _)
  isplitl [H0 H1 H2 H3 H4 H5 H6 H7 H8]
  · unfold Holds
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  unfold Holds
  iintro ⟨H0, H1, H2, H3, H4, H5, H6, H7, H8⟩
  ihave H8 := (Entails.of_eq (owns_whole (c : Thread nD τ) cc0_scratch0 fullShare _)) $$ H8
  isplitl [H8 HP]
  · isplitl [H8]; · iexists _; iexact H8
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every run ends with the pipeline's arrays at what the proof data says and every semaphore at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel.Run
-- ==== Proof.BodyI.lean ====
/- The idealized kernel's whole body, stepped through tile by tile. -/
module

public import proofs.«01_k».proof.Proof.Steps
public import proofs.«01_k».proof.KernelIdeal

@[expose] public section

set_option maxRecDepth 16384
noncomputable section

namespace Recv.I
open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

set_option maxHeartbeats 40000000 in
/-- The body, a tile at a time. -/
theorem body (defs : Defs nD τ sig (Elt F) Λ₀) (c : Dev nD) (E : Set ℕ) (i : grid0.Coords)
  (M1 : Memref sig .tc .vmem SP .fp8e4m3) (h1 : M1.IsWhole) (M2 : Memref sig .tc .vmem SS .f32) (h2 : M2.IsWhole) (M3 : Memref sig .tc .vmem SR .f32) (h3 : M3.IsWhole)
  (M4 : Memref sig .tc .vmem SX .bf16) (h4 : M4.IsWhole) (M5 : Memref sig .tc .vmem SR .f32) (h5 : M5.IsWhole) (M6 : Memref sig .tc .vmem SX .bf16) (h6 : M6.IsWhole)
  (M7 : Memref sig .tc .vmem SX .fp8e4m3) (h7 : M7.IsWhole) (M8 : Memref sig .tc .vmem SQ .f32) (h8 : M8.IsWhole) (M9 : Memref sig .tc .vmem SX .f32) (h9 : M9.IsWhole)
  (x1 : Vec F SP .fp8e4m3) (x2 : Vec F SS .f32) (x3 : Vec F SR .f32) (x4 : Vec F SX .bf16) (x5 : Vec F SR .f32)
  (x6 : Vec F SX .bf16) (x7 : Vec F SX .fp8e4m3) (x8 : Vec F SQ .f32) (x9 : Vec F SX .f32)
  (R : sProp (MT nD τ sig Unit (Elt F) ℕ (UR sig nD τ) ℕ)) (K : PUnit.{1} → sProp (MT nD τ sig Unit (Elt F) ℕ (UR sig nD τ) ℕ))
  (h : iprop(Holds c M1 M2 M3 M4 M5 M6 M7 M8 M9 x1 x2 x3 x4 x5 (out6 x1 x2 x3 x4) (out7 x1 x2 x3 x4 x5) (out8 x1 x2 x3 x4 x5) (zF x1 x2 x3 x4 x5) ∗ R) ⊢ K ⟨⟩) :
  Safe defs c E M1 M2 M3 M4 M5 M6 M7 M8 M9 x1 x2 x3 x4 x5 x6 x7 x8 x9 R K (cc0_recv_rmsnorm_quant i M1 h1 M2 h2 M3 h3 M4 h4 M5 h5 M6 h6 M7 h7 M8 h8 M9 h9) := by
  unfold cc0_recv_rmsnorm_quant
  refine load2 (ldS x2 _) ?_
  refine peek ?_
  generalize hm : andi (cmpi .eq _ _) (cmpi .eq _ _) = mk
  obtain rfl : maskF = mk := hm
  generalize hs : (matmul dot_S32x8_S8x256_S32x256_1_0_0_1_n_n none _ _ _ : FVec F M .f32) = sc
  obtain rfl : scalesF x2 = sc := hs
  refine peek ?_
  generalize hl : (truncf .bf16 (select maskF _ _) _ : FVec F M .bf16) = L
  obtain rfl : lhsF x2 0 = L := hl
  refine start6 (rT x1 x2 x3 x4) 0 (start9 (wT x1 x2 x3 x4) 0 ?_)
  iterate 16
    refine chunk ?_
    iterate 8 refine resid (by rfl) (by rfl) ?_
  refine peek ?_
  generalize hr : (broadcastTo T8 (shapeCast S8x1 (rsqrt _) _) _ : FVec F T8 .f32) = rs
  obtain rfl : rsF x1 x2 x3 x4 0 = rs := hr
  refine start9 (ysT x1 x2 x3 x4 x5) 0 ?_
  iterate 128 refine ytile (by rfl) ?_
  generalize he : (select (ori _ _) (broadcast T8 0#32) (subi _ (broadcast T8 126#32)) : IVec T8 32) = e
  obtain rfl : expF (qF x1 x2 x3 x4 x5 0) = e := he
  refine start9 (zT x1 x2 x3 x4 x5) 0 ?_
  iterate 128 refine ztile (by rfl) ?_
  refine peek ?_
  generalize hl : (truncf .bf16 (select maskF _ _) _ : FVec F M .bf16) = L
  obtain rfl : lhsF x2 1 = L := hl
  refine start6 (rT x1 x2 x3 x4) 1 (start9 (wT x1 x2 x3 x4) 1 ?_)
  iterate 16
    refine chunk ?_
    iterate 8 refine resid (by rfl) (by rfl) ?_
  refine peek ?_
  generalize hr : (broadcastTo T8 (shapeCast S8x1 (rsqrt _) _) _ : FVec F T8 .f32) = rs
  obtain rfl : rsF x1 x2 x3 x4 1 = rs := hr
  refine start9 (ysT x1 x2 x3 x4 x5) 1 ?_
  iterate 128 refine ytile (by rfl) ?_
  generalize he : (select (ori _ _) (broadcast T8 0#32) (subi _ (broadcast T8 126#32)) : IVec T8 32) = e
  obtain rfl : expF (qF x1 x2 x3 x4 x5 1) = e := he
  refine start9 (zT x1 x2 x3 x4 x5) 1 ?_
  iterate 128 refine ztile (by rfl) ?_
  refine peek ?_
  generalize hl : (truncf .bf16 (select maskF _ _) _ : FVec F M .bf16) = L
  obtain rfl : lhsF x2 2 = L := hl
  refine start6 (rT x1 x2 x3 x4) 2 (start9 (wT x1 x2 x3 x4) 2 ?_)
  iterate 16
    refine chunk ?_
    iterate 8 refine resid (by rfl) (by rfl) ?_
  refine peek ?_
  generalize hr : (broadcastTo T8 (shapeCast S8x1 (rsqrt _) _) _ : FVec F T8 .f32) = rs
  obtain rfl : rsF x1 x2 x3 x4 2 = rs := hr
  refine start9 (ysT x1 x2 x3 x4 x5) 2 ?_
  iterate 128 refine ytile (by rfl) ?_
  generalize he : (select (ori _ _) (broadcast T8 0#32) (subi _ (broadcast T8 126#32)) : IVec T8 32) = e
  obtain rfl : expF (qF x1 x2 x3 x4 x5 2) = e := he
  refine start9 (zT x1 x2 x3 x4 x5) 2 ?_
  iterate 128 refine ztile (by rfl) ?_
  refine peek ?_
  generalize hl : (truncf .bf16 (select maskF _ _) _ : FVec F M .bf16) = L
  obtain rfl : lhsF x2 3 = L := hl
  refine start6 (rT x1 x2 x3 x4) 3 (start9 (wT x1 x2 x3 x4) 3 ?_)
  iterate 16
    refine chunk ?_
    iterate 8 refine resid (by rfl) (by rfl) ?_
  refine peek ?_
  generalize hr : (broadcastTo T8 (shapeCast S8x1 (rsqrt _) _) _ : FVec F T8 .f32) = rs
  obtain rfl : rsF x1 x2 x3 x4 3 = rs := hr
  refine start9 (ysT x1 x2 x3 x4 x5) 3 ?_
  iterate 128 refine ytile (by rfl) ?_
  generalize he : (select (ori _ _) (broadcast T8 0#32) (subi _ (broadcast T8 126#32)) : IVec T8 32) = e
  obtain rfl : expF (qF x1 x2 x3 x4 x5 3) = e := he
  refine start9 (zT x1 x2 x3 x4 x5) 3 ?_
  iterate 128 refine ztile (by rfl) ?_
  refine turn6 (x6' := out6 x1 x2 x3 x4) (nest1 _ _) (turn9 (x9' := zF x1 x2 x3 x4 x5) (nest3 _ _ _ _) ?_)
  refine start7 (cT x1 x2 x3 x4 x5) ?_
  iterate 128 refine ctile (by rfl) fun _ => ?_
  refine turn7 (x7' := out7 x1 x2 x3 x4 x5) (overQ_full _ _) ?_
  refine stile (w' := out8 x1 x2 x3 x4 x5) (by rfl) fun _ => ?_
  exact safe_ret h

/-- The body turns what its memrefs hold into its three results. -/
theorem run (defs : Defs nD τ sig (Elt F) Λ₀) (c : Dev nD) (E : Set ℕ) (i : grid0.Coords)
  (M1 : Memref sig .tc .vmem SP .fp8e4m3) (h1 : M1.IsWhole) (M2 : Memref sig .tc .vmem SS .f32) (h2 : M2.IsWhole) (M3 : Memref sig .tc .vmem SR .f32) (h3 : M3.IsWhole)
  (M4 : Memref sig .tc .vmem SX .bf16) (h4 : M4.IsWhole) (M5 : Memref sig .tc .vmem SR .f32) (h5 : M5.IsWhole) (M6 : Memref sig .tc .vmem SX .bf16) (h6 : M6.IsWhole)
  (M7 : Memref sig .tc .vmem SX .fp8e4m3) (h7 : M7.IsWhole) (M8 : Memref sig .tc .vmem SQ .f32) (h8 : M8.IsWhole) (M9 : Memref sig .tc .vmem SX .f32) (h9 : M9.IsWhole)
  (x1 : Vec F SP .fp8e4m3) (x2 : Vec F SS .f32) (x3 : Vec F SR .f32) (x4 : Vec F SX .bf16) (x5 : Vec F SR .f32)
  (x6 : Vec F SX .bf16) (x7 : Vec F SX .fp8e4m3) (x8 : Vec F SQ .f32) (x9 : Vec F SX .f32)
  (K : PUnit.{1} → sProp (MT nD τ sig Unit (Elt F) ℕ (UR sig nD τ) ℕ)) :
  iprop(Holds c M1 M2 M3 M4 M5 M6 M7 M8 M9 x1 x2 x3 x4 x5 x6 x7 x8 x9 ∗
      (Holds c M1 M2 M3 M4 M5 M6 M7 M8 M9 x1 x2 x3 x4 x5 (out6 x1 x2 x3 x4) (out7 x1 x2 x3 x4 x5) (out8 x1 x2 x3 x4 x5) (zF x1 x2 x3 x4 x5) -∗ K ⟨⟩))
    ⊢ wp frame (wpE defs Variants.none c none) E (cc0_recv_rmsnorm_quant i M1 h1 M2 h2 M3 h3 M4 h4 M5 h5 M6 h6 M7 h7 M8 h8 M9 h9) K := by
  refine body defs c E i M1 h1 M2 h2 M3 h3 M4 h4 M5 h5 M6 h6 M7 h7 M8 h8 M9 h9 x1 x2 x3 x4 x5 x6 x7 x8 x9 _ K ?_
  iintro ⟨H1, H2⟩
  iapply H2
  iexact H1

end Recv.I
-- ==== Proof.RunI.lean ====
/- The run of KernelIdeal's program: the kernel's body at a grid point, the pipeline's proof data, and @main. -/
module

public import proofs.«01_k».proof.Proof.BodyI
public import proofs.«01_k».proof.Proof.Gen.KernelIdeal.Frame
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen Recv

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks of the five operands at a grid point. -/
abbrev blk1 (c : Dev nD) (t : Fin cfg0.N) : Vec F SP .fp8e4m3 := iblk m c 0 t
abbrev blk2 (c : Dev nD) (t : Fin cfg0.N) : Vec F SS .f32 := iblk m c 1 t
abbrev blk3 (c : Dev nD) (t : Fin cfg0.N) : Vec F SR .f32 := iblk m c 2 t
abbrev blk4 (c : Dev nD) (t : Fin cfg0.N) : Vec F SX .bf16 := iblk m c 3 t
abbrev blk5 (c : Dev nD) (t : Fin cfg0.N) : Vec F SR .f32 := iblk m c 4 t

/-- The pipeline's proof data on core `c`: each operand's buffer keeps its block, each result's holds what the body
    computes of the five blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out6 (blk1 m c t) (blk2 m c t) (blk3 m c t) (blk4 m c t)
    | ⟨6, _⟩ => out7 (blk1 m c t) (blk2 m c t) (blk3 m c t) (blk4 m c t) (blk5 m c t)
    | ⟨7, _⟩ => out8 (blk1 m c t) (blk2 m c t) (blk3 m c t) (blk4 m c t) (blk5 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out6 (blk1 m c t) (blk2 m c t) (blk3 m c t) (blk4 m c t) := by
  dsimp only [dats]
theorem after6 (c : Dev nD) (t : Fin cfg0.N) :
    (dats m 0 c).after 6 t = out7 (blk1 m c t) (blk2 m c t) (blk3 m c t) (blk4 m c t) (blk5 m c t) := by dsimp only [dats]
theorem after7 (c : Dev nD) (t : Fin cfg0.N) :
    (dats m 0 c).after 7 t = out8 (blk1 m c t) (blk2 m c t) (blk3 m c t) (blk4 m c t) (blk5 m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at a point: the operands' buffers hold their blocks, and the scratch is opened and closed again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7]
  unfold Pipeline.ΦA
  rw [scopedRest0_eq]
  iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  icases HS with ⟨%d8, H8⟩
  ihave H8 := (Entails.of_eq (owns_whole (c : Thread nD τ) cc0_scratch0 fullShare d8).symm) $$ H8
  iapply (Recv.I.run (defs₀ (F := F)) c Set.univ (grid0.coords t) _ _ _ _ _ _ _ _ _ _ _ _ _ _ _ _ _ _
    (blk1 m c t) (blk2 m c t) (blk3 m c t) (blk4 m c t) (blk5 m c t) _ _ _ _ _)
  isplitl [H0 H1 H2 H3 H4 H5 H6 H7 H8]
  · unfold Holds
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  unfold Holds
  iintro ⟨H0, H1, H2, H3, H4, H5, H6, H7, H8⟩
  ihave H8 := (Entails.of_eq (owns_whole (c : Thread nD τ) cc0_scratch0 fullShare _)) $$ H8
  isplitl [H8 HP]
  · isplitl [H8]; · iexists _; iexact H8
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every run ends with the pipeline's arrays at what the proof data says and every semaphore at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Run
-- ==== Proof.RefRun.lean ====
/- The reference's run, with its three result arrays named as the body's results of the argument arrays. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S1x128x16384.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S1x128x16384.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S1x128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

theorem hz0 : (![0, 0, 0, 0] : Fin 4 → Nat) = fun _ => 0 := funext fun a => by fin_cases a <;> rfl

/-- Window 0's block index at the one point is zero on every axis. -/
theorem idx_zero0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

/-- An index of window 0's block is the same index of its array. -/
theorem emb0 (t : Fin cfg0.N) (j : S1x128x8x16384.Idx) : ((cfg0.win 0).blk t).view.emb j = j := by
  obtain ⟨e0, e1, e2, e3⟩ := idx_zero0 t
  funext a; apply Fin.ext
  match a with
  | ⟨0, _⟩ => show win0_0.index t (0 : Fin 4) * 1 + 1 * (j 0).val = (j 0).val; omega
  | ⟨1, _⟩ => show win0_0.index t (1 : Fin 4) * 128 + 1 * (j 1).val = (j 1).val; omega
  | ⟨2, _⟩ => show win0_0.index t (2 : Fin 4) * 8 + 1 * (j 2).val = (j 2).val; omega
  | ⟨3, _⟩ => show win0_0.index t (3 : Fin 4) * 16384 + 1 * (j 3).val = (j 3).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S1x128x8.Idx) : ((cfg0.win 1).blk t).view.emb j = j := by
  obtain ⟨e0, e1, e2⟩ := idx_zero1 t
  funext a; apply Fin.ext
  match a with
  | ⟨0, _⟩ => show win0_1.index t (0 : Fin 3) * 1 + 1 * (j 0).val = (j 0).val; omega
  | ⟨1, _⟩ => show win0_1.index t (1 : Fin 3) * 128 + 1 * (j 1).val = (j 1).val; omega
  | ⟨2, _⟩ => show win0_1.index t (2 : Fin 3) * 8 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S16384.Idx) : ((cfg0.win 2).blk t).view.emb j = j := by
  have e0 := idx_zero2 t
  funext a; apply Fin.ext
  match a with
  | ⟨0, _⟩ => show win0_2.index t (0 : Fin 1) * 16384 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S1x128x16384.Idx) : ((cfg0.win 3).blk t).view.emb j = j := by
  obtain ⟨e0, e1, e2⟩ := idx_zero3 t
  funext a; apply Fin.ext
  match a with
  | ⟨0, _⟩ => show win0_3.index t (0 : Fin 3) * 1 + 1 * (j 0).val = (j 0).val; omega
  | ⟨1, _⟩ => show win0_3.index t (1 : Fin 3) * 128 + 1 * (j 1).val = (j 1).val; omega
  | ⟨2, _⟩ => show win0_3.index t (2 : Fin 3) * 16384 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S16384.Idx) : ((cfg0.win 4).blk t).view.emb j = j := by
  have e0 := idx_zero4 t
  funext a; apply Fin.ext
  match a with
  | ⟨0, _⟩ => show win0_4.index t (0 : Fin 1) * 16384 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S1x128x16384.Idx) : ((cfg0.win 5).blk t).view.emb j = j := by
  obtain ⟨e0, e1, e2⟩ := idx_zero5 t
  funext a; apply Fin.ext
  match a with
  | ⟨0, _⟩ => show win0_5.index t (0 : Fin 3) * 1 + 1 * (j 0).val = (j 0).val; omega
  | ⟨1, _⟩ => show win0_5.index t (1 : Fin 3) * 128 + 1 * (j 1).val = (j 1).val; omega
  | ⟨2, _⟩ => show win0_5.index t (2 : Fin 3) * 16384 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S1x128x16384.Idx) : ((cfg0.win 6).blk t).view.emb j = j := by
  obtain ⟨e0, e1, e2⟩ := idx_zero6 t
  funext a; apply Fin.ext
  match a with
  | ⟨0, _⟩ => show win0_6.index t (0 : Fin 3) * 1 + 1 * (j 0).val = (j 0).val; omega
  | ⟨1, _⟩ => show win0_6.index t (1 : Fin 3) * 128 + 1 * (j 1).val = (j 1).val; omega
  | ⟨2, _⟩ => show win0_6.index t (2 : Fin 3) * 16384 + 1 * (j 2).val = (j 2).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S1x128.Idx) : ((cfg0.win 7).blk t).view.emb j = j := by
  obtain ⟨e0, e1⟩ := idx_zero7 t
  funext a; apply Fin.ext
  match a with
  | ⟨0, _⟩ => show win0_7.index t (0 : Fin 2) * 1 + 1 * (j 0).val = (j 0).val; omega
  | ⟨1, _⟩ => show win0_7.index t (1 : Fin 2) * 128 + 1 * (j 1).val = (j 1).val; omega

/-! ### Output window 5: the array after the run -/

/-- What the window's array ends holding: `out0_5` applied to the argument arrays in place of the input blocks (a value that the
    frame states apart, `kK_payN a…`, keeps its loads inside its own definition). -/
abbrev G5 (a0 : Vec F S1x128x8x16384 .fp8e4m3) (a1 : Vec F S1x128x8 .f32) (a2 : Vec F S16384 .f32) (a3 : Vec F S1x128x16384 .bf16) (a4 : Vec F S16384 .f32) : Vec F S1x128x16384 .bf16 :=
  k0_pay4 a0 a1 a2 a3

/-- A load of the whole of a block reads the block, and the one store through the whole rectangle leaves its payload. -/
theorem out5_eq (a0 : Vec F S1x128x8x16384 .fp8e4m3) (a1 : Vec F S1x128x8 .f32) (a2 : Vec F S16384 .f32) (a3 : Vec F S1x128x16384 .bf16) (a4 : Vec F S16384 .f32) : out0_5 (F := F) a0 a1 a2 a3 a4 = G5 a0 a1 a2 a3 a4 := by
  unfold out0_5
  rw [View.canon_unit_zero hz5, View.ld_unit_zero (S := S1x128x8x16384) hz0 _ a0, View.ld_unit_zero (S := S1x128x8) hz1 _ a1, View.ld_unit_zero (S := S16384) hz2 _ a2, View.ld_unit_zero (S := S1x128x16384) hz3 _ a3]

/-- Cutting the point's block out of `X` and reading `X` through the block's view give the same. -/
theorem cut5_eq (t : Fin cfg0.N) (X : Vec F S1x128x16384 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S1x128x16384.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S1x128x8x16384 .fp8e4m3) (a1 : Vec F S1x128x8 .f32) (a2 : Vec F S16384 .f32) (a3 : Vec F S1x128x16384 .bf16) (a4 : Vec F S16384 .f32) : Vec F S1x128x16384 .fp8e4m3 :=
  k0_pay2 (k0_pay5 a0 a1 a2 a3 a4) (k0_pay9 a0 a1 a2 a3 a4) (k0_pay10 a0 a1 a2 a3 a4) (k0_pay11 a0 a1 a2 a3 a4)

/-- A load of the whole of a block reads the block, and the one store through the whole rectangle leaves its payload. -/
theorem out6_eq (a0 : Vec F S1x128x8x16384 .fp8e4m3) (a1 : Vec F S1x128x8 .f32) (a2 : Vec F S16384 .f32) (a3 : Vec F S1x128x16384 .bf16) (a4 : Vec F S16384 .f32) : out0_6 (F := F) a0 a1 a2 a3 a4 = G6 a0 a1 a2 a3 a4 := by
  unfold out0_6
  rw [View.canon_unit_zero hz6, View.ld_unit_zero (S := S1x128x8x16384) hz0 _ a0, View.ld_unit_zero (S := S1x128x8) hz1 _ a1, View.ld_unit_zero (S := S16384) hz2 _ a2, View.ld_unit_zero (S := S1x128x16384) hz3 _ a3, View.ld_unit_zero (S := S16384) hz4 _ a4]

/-- Cutting the point's block out of `X` and reading `X` through the block's view give the same. -/
theorem cut6_eq (t : Fin cfg0.N) (X : Vec F S1x128x16384 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S1x128x16384.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks (a value that the
    frame states apart, `kK_payN a…`, keeps its loads inside its own definition). -/
abbrev G7 (a0 : Vec F S1x128x8x16384 .fp8e4m3) (a1 : Vec F S1x128x8 .f32) (a2 : Vec F S16384 .f32) (a3 : Vec F S1x128x16384 .bf16) (a4 : Vec F S16384 .f32) : Vec F S1x128 .f32 :=
  k0_pay3 (k0_pay9 a0 a1 a2 a3 a4) (k0_pay10 a0 a1 a2 a3 a4) (k0_pay11 a0 a1 a2 a3 a4)

/-- The one store through the whole rectangle leaves its payload. -/
theorem out7_eq (a0 : Vec F S1x128x8x16384 .fp8e4m3) (a1 : Vec F S1x128x8 .f32) (a2 : Vec F S16384 .f32) (a3 : Vec F S1x128x16384 .bf16) (a4 : Vec F S16384 .f32) : out0_7 (F := F) a0 a1 a2 a3 a4 = G7 a0 a1 a2 a3 a4 := by
  unfold out0_7
  rw [View.canon_unit_zero hz7]

/-- Cutting the point's block out of `X` and reading `X` through the block's view give the same. -/
theorem cut7_eq (t : Fin cfg0.N) (X : Vec F S1x128 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S1x128.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      kept_main_arg0 m r h c,
      kept_main_arg1 m r h c,
      kept_main_arg2 m r h c,
      kept_main_arg3 m r h c,
      kept_main_arg4 m r h c⟩)
    (run_main m ρ)

end Cert.ReferenceIdeal.Value

end
-- ==== Proof.Mask.lean ====
/- The mask of the left operand and the matrix that spreads the scales, index by index. -/
module

public import proofs.«01_k».proof.Proof.Tiles
public import Idealize.ShloMosaic.Lib.PointwiseCore

@[expose] public section

set_option maxRecDepth 16384

noncomputable section

namespace Recv

open Idealize.ShloMosaic

/-- The mask holds where the column's 32-group is the row's place in its group of eight, and its 8-group's place among four
    is the row's group. -/
theorem mask_apply : ∀ (a : Fin 32) (d : Fin 256), maskF (ix2 a d) = BitVec.ofBool (decide (d.val / 32 = a.val % 8 ∧ d.val / 8 % 4 = a.val / 8)) := by
  decide +kernel

theorem spread_words {F : FTy → Type} [FloatOps F] : ∃ B : IVec M8 32, (spreadF : FVec F M8 .bf16) = truncf .bf16 (sitofp .f32 B) (by decide)
    ∧ ∀ (j : Fin 8) (k : Fin 256), B (ix2 j k) = if k.val % 8 = j.val then 1#32 else 0#32 :=
  ⟨_, rfl, by decide +kernel⟩

end Recv
-- ==== Proof.Scale.lean ====
/- The scale of a row over the extended reals: the body's search for the exponent of a quotient and the powers of two that
   it makes of it, against the logarithm and the powers of the reference. -/
module

public import proofs.«01_k».proof.Proof.Tiles
public import Idealize.ShloMosaic.PureOps.Ideal
public import Idealize.ShloMosaic.Lib.ValueIdx

@[expose] public section

noncomputable section

namespace Recv

open Idealize.ShloMosaic

/-- The word of exponent field `f`, as a value: 0, a power of two, or infinity. -/
def pw (f : ℕ) : EReal := Ideal.ofBits .f32 (IntOp.shli .vector (BitVec.ofNat 32 f) 23#32)

theorem pw_fields : ∀ f : Fin 256, ((IntOp.shli .vector (BitVec.ofNat 32 f.val) 23#32).extractLsb' 31 1 == 1#1) = false
    ∧ ((IntOp.shli .vector (BitVec.ofNat 32 f.val) 23#32).extractLsb' 23 8).toNat = f.val
    ∧ ((IntOp.shli .vector (BitVec.ofNat 32 f.val) 23#32).extractLsb' 0 23).toNat = 0 := by decide +kernel

theorem pw_normal (f : ℕ) (h0 : 0 < f) (h1 : f < 255) : pw f = (((2 : ℝ) ^ ((f : ℤ) - 127) : ℝ) : EReal) := by
  obtain ⟨a, b, c⟩ := pw_fields ⟨f, by omega⟩
  unfold pw
  generalize IntOp.shli .vector (BitVec.ofNat 32 f) 23#32 = w at a b c
  simp only [Ideal.ofBits, Ideal.ieee]
  rw [a, b, c]
  have n1 : ¬ f = 2 ^ 8 - 1 := by norm_num; omega
  have n2 : ¬ f = 0 := by omega
  simp only [n1, n2, if_false, ↓reduceIte]
  congr 1
  rw [show ((f : ℤ) - (2 ^ (8 - 1) - 1) - ((23 : ℕ) : ℤ)) = ((f : ℤ) - 127) + (-23) by norm_num; ring, zpow_add₀ (by norm_num)]
  norm_num
  ring

theorem pw_zero : pw 0 = 0 := by
  obtain ⟨a, b, c⟩ := pw_fields ⟨0, by omega⟩
  unfold pw
  generalize IntOp.shli .vector (BitVec.ofNat 32 0) 23#32 = w at a b c
  simp only [Ideal.ofBits, Ideal.ieee]
  rw [a, b, c]; norm_num

/-- One step of the search: `bit` is added to the field when the word it makes is at most `q`. -/
def srch (q : EReal) (bit field : BitVec 32) : BitVec 32 :=
  Scalar.select (FloatOps.cmpf (F := Ideal) (φ := .f32) .oge q (FloatOps.ofBits .f32 (IntOp.shli .vector (IntOp.addi field bit) 23#32))) (IntOp.addi field bit) field

theorem srch_step (q : EReal) (b f : ℕ) (hb : f + 2 * b ≤ 256) (h0 : pw f ≤ q) (h1 : f + 2 * b ≤ 255 → q < pw (f + 2 * b)) :
    ∃ f', srch q (BitVec.ofNat 32 b) (BitVec.ofNat 32 f) = BitVec.ofNat 32 f' ∧ f' + b ≤ 256 ∧ pw f' ≤ q ∧ (f' + b ≤ 255 → q < pw (f' + b)) := by
  have e : IntOp.addi (BitVec.ofNat 32 f) (BitVec.ofNat 32 b) = BitVec.ofNat 32 (f + b) := by
    simp [IntOp.addi, BitVec.ofNat_add]
  unfold srch
  rw [e]
  by_cases h : pw (f + b) ≤ q
  · refine ⟨f + b, ?_, by omega, h, fun hh => ?_⟩
    · have : FloatOps.cmpf (F := Ideal) (φ := .f32) .oge q (FloatOps.ofBits .f32 (IntOp.shli .vector (BitVec.ofNat 32 (f + b)) 23#32)) = 1#1 := by
        show Ideal.cmp .oge q (pw (f + b)) = 1#1
        simp [Ideal.cmp, h]
      rw [this]; rfl
    · rw [show f + b + b = f + 2 * b by ring]; exact h1 (by omega)
  · refine ⟨f, ?_, by omega, h0, fun hh => lt_of_not_ge h⟩
    have : FloatOps.cmpf (F := Ideal) (φ := .f32) .oge q (FloatOps.ofBits .f32 (IntOp.shli .vector (BitVec.ofNat 32 (f + b)) 23#32)) = 0#1 := by
      show Ideal.cmp .oge q (pw (f + b)) = 0#1
      simp [Ideal.cmp, h]
    rw [this]; rfl

/-- The exponent field of `q`, as the body searches for it. -/
def fieldS (q : EReal) : BitVec 32 :=
  srch q 1#32 (srch q 2#32 (srch q 4#32 (srch q 8#32 (srch q 16#32 (srch q 32#32 (srch q 64#32 (srch q 128#32 0#32)))))))

theorem fieldS_spec (q : EReal) (h : 0 ≤ q) : ∃ f, fieldS q = BitVec.ofNat 32 f ∧ f ≤ 255 ∧ pw f ≤ q ∧ (f ≤ 254 → q < pw (f + 1)) := by
  unfold fieldS
  obtain ⟨f1, e1, a1, b1, c1⟩ := srch_step q 128 0 (by omega) (by rw [pw_zero]; exact h) (by omega)
  obtain ⟨f2, e2, a2, b2, c2⟩ := srch_step q 64 f1 (by omega) b1 c1
  obtain ⟨f3, e3, a3, b3, c3⟩ := srch_step q 32 f2 (by omega) b2 c2
  obtain ⟨f4, e4, a4, b4, c4⟩ := srch_step q 16 f3 (by omega) b3 c3
  obtain ⟨f5, e5, a5, b5, c5⟩ := srch_step q 8 f4 (by omega) b4 c4
  obtain ⟨f6, e6, a6, b6, c6⟩ := srch_step q 4 f5 (by omega) b5 c5
  obtain ⟨f7, e7, a7, b7, c7⟩ := srch_step q 2 f6 (by omega) b6 c6
  obtain ⟨f8, e8, a8, b8, c8⟩ := srch_step q 1 f7 (by omega) b7 c7
  refine ⟨f8, ?_, by omega, b8, fun h => c8 (by omega)⟩
  rw [← e8, ← e7, ← e6, ← e5, ← e4, ← e3, ← e2, ← e1]

/-- The exponent, as a word: zero at the fields 0 and 255. -/
def expS (q : EReal) : BitVec 32 :=
  Scalar.select (IntOp.ori (IntOp.cmpi .eq (fieldS q) 0#32) (IntOp.cmpi .eq (fieldS q) 255#32)) 0#32 (IntOp.subi (fieldS q) 126#32)

theorem expF_apply (q : FVec Ideal T8 .f32) (i : T8.Idx) : expF q i = expS (q i) := rfl

/-- The body's powers of two, at one quotient. -/
def sclS (q : EReal) : EReal := Ideal.ofBits .f32 (IntOp.shli .vector (IntOp.addi 127#32 (expS q)) 23#32)
def invS (q : EReal) : EReal := Ideal.ofBits .f32 (IntOp.shli .vector (IntOp.subi 127#32 (expS q)) 23#32)

theorem sclF_apply (q : FVec Ideal T8 .f32) (i : T8.Idx) : sclF q i = sclS (q i) := rfl
theorem invF_apply (q : FVec Ideal T8 .f32) (i : T8.Idx) : invF q i = invS (q i) := rfl

/-- The reference's exponent, at one quotient. -/
def refE (q : EReal) : EReal :=
  Scalar.select (IntOp.andi (Ideal.cmp .oge q (Ideal.ofBits .f32 0x00800000#32)) (Ideal.cmp .olt q (Ideal.ofBits .f32 0x7F800000#32)))
    (Ideal.liftRound Int.floor (Ideal.div (Ideal.log q) (Ideal.log (Ideal.ofBits .f32 0x40000000#32))) + Ideal.ofBits .f32 0x3F800000#32)
    (Ideal.ofBits .f32 0x00000000#32)

theorem bits_zero : Ideal.ofBits .f32 0x00000000#32 = 0 := by simp [Ideal.ofBits, Ideal.ieee]
theorem bits_one : Ideal.ofBits .f32 0x3F800000#32 = 1 := by simp [Ideal.ofBits, Ideal.ieee, -EReal.coe_mul]; norm_num
theorem bits_two : Ideal.ofBits .f32 0x40000000#32 = ((2 : ℝ) : EReal) := by simp [Ideal.ofBits, Ideal.ieee, -EReal.coe_mul]; norm_num
theorem bits_top : Ideal.ofBits .f32 0x7F800000#32 = ⊤ := by simp [Ideal.ofBits, Ideal.ieee]

theorem scale_words : ∀ f : Fin 253, 0 < f.val → Scalar.select (IntOp.ori (IntOp.cmpi .eq (BitVec.ofNat 32 f.val) 0#32) (IntOp.cmpi .eq (BitVec.ofNat 32 f.val) 255#32)) 0#32
      (IntOp.subi (BitVec.ofNat 32 f.val) 126#32) = BitVec.ofNat 32 f.val - 126#32
    ∧ IntOp.addi 127#32 (BitVec.ofNat 32 f.val - 126#32) = BitVec.ofNat 32 (f.val + 1)
    ∧ IntOp.subi 127#32 (BitVec.ofNat 32 f.val - 126#32) = BitVec.ofNat 32 (253 - f.val) := by decide +kernel

/-- Below 2^126 the body's two powers are the reference's. -/
theorem scale_eq (q : EReal) (h : 0 ≤ q) (hq : q < (((2 : ℝ) ^ (126 : ℤ) : ℝ) : EReal)) :
    sclS q = Ideal.exp2 (refE q) ∧ invS q = Ideal.exp2 (Ideal.ofBits .f32 0x00000000#32 - refE q) := by
  obtain ⟨f, e, hf, lo, hi⟩ := fieldS_spec q h
  have hmin : Ideal.ofBits .f32 0x00800000#32 = (((2 : ℝ) ^ (-126 : ℤ) : ℝ) : EReal) := by
    have := pw_normal 1 (by omega) (by omega)
    have e : IntOp.shli .vector (BitVec.ofNat 32 1) 23#32 = 0x00800000#32 := by decide +kernel
    unfold pw at this
    rw [e] at this
    exact this
  have htop : q ≠ ⊤ := ne_top_of_lt hq
  have hbot : q ≠ ⊥ := ne_bot_of_le_ne_bot (by simp) h
  unfold sclS invS expS refE
  rw [e, hmin, bits_zero, bits_one, bits_two, bits_top]
  by_cases h0 : f = 0
  · subst h0
    have hlt : q < (((2 : ℝ) ^ (-126 : ℤ) : ℝ) : EReal) := by
      have := hi (by omega); rwa [pw_normal 1 (by omega) (by omega)] at this
    have c : Ideal.cmp .oge q (((2 : ℝ) ^ (-126 : ℤ) : ℝ) : EReal) = 0#1 := by
      simp only [Ideal.cmp]; rw [decide_eq_false (not_le_of_gt hlt)]; rfl
    rw [c]
    have hone : Ideal.ofBits .f32 1065353216#32 = 1 := bits_one
    have hsel : ∀ (w : BitVec 1) (x y : EReal), Scalar.select (IntOp.andi 0#1 w) x y = y := by
      intro w x y; simp [Scalar.select, IntOp.andi]
    rw [hsel]
    constructor
    · show Ideal.ofBits .f32 1065353216#32 = _
      rw [hone, show (0 : EReal) = ((0 : ℝ) : EReal) from rfl, Ideal.exp2_coe]; simp
    · show Ideal.ofBits .f32 1065353216#32 = _
      rw [hone, sub_zero, show (0 : EReal) = ((0 : ℝ) : EReal) from rfl, Ideal.exp2_coe]; simp
  · have hf2 : f ≤ 252 := by
      by_contra hc
      rcases Nat.lt_or_ge f 255 with h5 | h5
      · rw [pw_normal f (by omega) h5] at lo
        have := lt_of_le_of_lt lo hq
        rw [EReal.coe_lt_coe_iff, zpow_lt_zpow_iff_right₀ (by norm_num)] at this
        omega
      · have : f = 255 := by omega
        subst this
        have ht : pw 255 = ⊤ := by
          show Ideal.ofBits .f32 0x7F800000#32 = ⊤
          exact bits_top
        rw [ht] at lo; exact htop (top_le_iff.1 lo)
    obtain ⟨w1, w2, w3⟩ := scale_words ⟨f, by omega⟩ (by simp only []; omega)
    simp only [] at w1 w2 w3
    rw [w1, w2, w3]
    induction q using EReal.rec with
    | bot => exact absurd rfl hbot
    | top => exact absurd rfl htop
    | coe q =>
      have hi' := hi (by omega)
      rw [pw_normal f (by omega) (by omega), EReal.coe_le_coe_iff] at lo
      rw [pw_normal (f + 1) (by omega) (by omega), EReal.coe_lt_coe_iff] at hi'
      have hpos : 0 < q := lt_of_lt_of_le (by positivity) lo
      have c1 : Ideal.cmp .oge (q : EReal) (((2 : ℝ) ^ (-126 : ℤ) : ℝ) : EReal) = 1#1 := by
        simp only [Ideal.cmp]; rw [decide_eq_true]; · rfl
        rw [EReal.coe_le_coe_iff]
        refine le_trans ?_ lo
        exact zpow_le_zpow_right₀ (by norm_num) (by omega)
      have c2 : Ideal.cmp .olt (q : EReal) ⊤ = 1#1 := by
        simp only [Ideal.cmp]; rw [decide_eq_true]; · rfl
        exact EReal.coe_lt_top q
      rw [c1, c2]
      have hl2 : (0 : ℝ) < Real.log 2 := Real.log_pos (by norm_num)
      have hfl : ⌊Real.log q * (Real.log 2)⁻¹⌋ = (f : ℤ) - 127 := by
        rw [Int.floor_eq_iff]
        have k1 := Real.log_le_log (by positivity) lo
        have k2 := Real.log_lt_log hpos hi'
        rw [Real.log_zpow] at k1 k2
        constructor
        · rw [← div_eq_mul_inv, le_div_iff₀ hl2]; exact k1
        · rw [← div_eq_mul_inv, div_lt_iff₀ hl2]
          push_cast at k2 ⊢
          linarith
      have hE : Ideal.liftRound Int.floor (Ideal.div (Ideal.log (q : EReal)) (Ideal.log ((2 : ℝ) : EReal))) + 1 = ((((f : ℤ) - 126 : ℤ) : ℝ) : EReal) := by
        rw [Ideal.log_coe, Ideal.log_coe, if_neg (not_le_of_gt hpos), if_neg (by norm_num)]
        unfold Ideal.div
        rw [if_neg (by rw [← EReal.coe_zero, EReal.coe_eq_coe_iff]; exact hl2.ne'), ← EReal.coe_inv, ← EReal.coe_mul]
        show (((⌊Real.log q * (Real.log 2)⁻¹⌋ : ℤ) : ℝ) : EReal) + 1 = _
        rw [hfl, ← EReal.coe_one, ← EReal.coe_add]
        congr 1; push_cast; ring
      rw [hE]
      have hs : ∀ x y : EReal, Scalar.select (IntOp.andi 1#1 1#1) x y = x := fun _ _ => rfl
      rw [hs]
      constructor
      · show pw (f + 1) = _
        rw [pw_normal (f + 1) (by omega) (by omega), Ideal.exp2_coe]
        congr 1
        show _ = (2 : ℝ) ^ (((f : ℤ) - 126 : ℤ) : ℝ)
        rw [Real.rpow_intCast]; congr 1; push_cast; ring
      · show pw (253 - f) = _
        rw [pw_normal (253 - f) (by omega) (by omega), zero_sub, ← EReal.coe_neg, Ideal.exp2_coe]
        congr 1
        show _ = (2 : ℝ) ^ (-(((f : ℤ) - 126 : ℤ) : ℝ))
        rw [← Int.cast_neg, Real.rpow_intCast]; congr 1
        rw [Nat.cast_sub (by omega)]; push_cast; ring

end Recv
-- ==== Proof.Value1.lean ====
/- The body's tiles over the extended reals, an element at a time. -/
module

public import proofs.«01_k».proof.Proof.Mask
public import proofs.«01_k».proof.Proof.Scale
public import Idealize.ShloMosaic.PureOps.Ideal
public import Idealize.ShloMosaic.Lib.Pointwise

@[expose] public section

set_option maxRecDepth 16384

noncomputable section

namespace Recv

open Idealize.ShloMosaic

theorem spread_apply (j : Fin 8) (k : Fin 256) : (spreadF : FVec Ideal M8 .bf16) (ix2 j k) = if k.val % 8 = j.val then 1 else 0 := by
  obtain ⟨B, h, hB⟩ := spread_words (F := Ideal)
  rw [h]
  show (((B (ix2 j k)).toInt : ℝ) : EReal) = _
  rw [hB]
  split <;> simp

theorem scales_apply (s : Vec Ideal SS .f32) (r : Fin 32) (k : Fin 256) : scalesF s (ix2 r k) = s (ix2 r ⟨k.val % 8, Nat.mod_lt _ (by decide)⟩) := by
  unfold scalesF
  pointwise [dotA]
  rw [Finset.sum_eq_single (⟨k.val % 8, Nat.mod_lt _ (by decide)⟩ : Fin 8)]
  · rw [spread_apply, if_pos rfl, mul_one]
  · intro j _ hj
    rw [spread_apply, if_neg (fun h => hj (Fin.ext h.symm)), mul_zero]
  · intro h; exact absurd (Finset.mem_univ _) h

theorem lhs_apply (s : Vec Ideal SS .f32) (g : ℕ) (a : Fin 32) (k : Fin 256) : lhsF s g (ix2 a k) =
    if k.val / 32 = a.val % 8 ∧ k.val / 8 % 4 = a.val / 8 then s (ix2 ⟨8 * (g % 4) + a.val % 8, by omega⟩ ⟨k.val % 8, Nat.mod_lt _ (by decide)⟩) else 0 := by
  unfold lhsF
  pointwise
  rw [mask_apply]
  have e : ∀ (r : Fin 32), r.val = 8 * (g % 4) + a.val % 8 → scalesF s (ix2 r k) = s (ix2 ⟨8 * (g % 4) + a.val % 8, by omega⟩ ⟨k.val % 8, Nat.mod_lt _ (by decide)⟩) := by
    intro r hr
    rw [scales_apply]; congr 2; exact Fin.ext hr
  have ha := a.isLt
  have h : ∀ (c : Prop) [Decidable c] (u v w : EReal), u = v → Scalar.select (BitVec.ofBool (decide c)) u w = if c then v else w := by
    intro c _ u v w huv
    subst huv
    by_cases hc : c <;> simp [hc, Scalar.select]
  apply h
  split
  · exact e _ (by show 8 * (g % 4) + a.val = _; omega)
  · split
    · exact e _ (by show 8 * (g % 4) + (a.val - 8) = _; omega)
    · split
      · exact e _ (by show 8 * (g % 4) + (a.val - 8 - 8) = _; omega)
      · exact e _ (by show 8 * (g % 4) + (a.val - 8 - 8 - 8) = _; omega)

/-- A row of the residual before its rounding, column by column. -/
def resS (p : Vec Ideal SP .fp8e4m3) (s : Vec Ideal SS .f32) (b : Vec Ideal SR .f32) (x : Vec Ideal SX .bf16) (r : Fin 32) (j : Fin 16384) : EReal :=
  (∑ k : Fin 8, s (ix2 r k) * p (ix3 r ⟨8 * (j.val / 128) + k.val, by omega⟩ ⟨j.val % 128, by omega⟩)) + b (ix2 0 j) + x (ix2 r j)

theorem acc_apply (p : Vec Ideal SP .fp8e4m3) (s : Vec Ideal SS .f32) (g n : ℕ) (hg : g < 4) (hn : n < 128) (a : Fin 8) (d : Fin 128) (h1 : 8 * (n % 4) + a.val < 32) (h2 : 128 * (n / 4 % 2) + d.val < 256) :
    accF p s g (n / 8) (ix2 ⟨8 * (n % 4) + a.val, h1⟩ ⟨128 * (n / 4 % 2) + d.val, h2⟩)
      = ∑ k : Fin 8, s (ix2 ⟨8 * g + a.val, by omega⟩ k) * p (ix3 ⟨8 * g + a.val, by omega⟩ ⟨8 * n + k.val, by omega⟩ d) := by
  have q1 : (8 * (n % 4) + a.val) % 8 = a.val := by omega
  have q2 : (8 * (n % 4) + a.val) / 8 = n % 4 := by omega
  unfold accF
  pointwise [dotB]
  symm
  refine Finset.sum_of_injOn (fun k : Fin 8 => (⟨32 * a.val + 8 * (n % 4) + k.val, by omega⟩ : Fin 256)) ?_ (fun _ _ => Finset.mem_coe.2 (Finset.mem_univ _)) ?_ ?_
  · intro k _ k' _ h
    have := congrArg Fin.val h
    exact Fin.ext (by simpa using this)
  · intro k _ hk
    rw [lhs_apply, if_neg, zero_mul]
    rintro ⟨c1, c2⟩
    replace c1 : k.val / 32 = (8 * (n % 4) + a.val) % 8 := c1
    replace c2 : k.val / 8 % 4 = (8 * (n % 4) + a.val) / 8 := c2
    rw [q1] at c1
    rw [q2] at c2
    apply hk
    refine ⟨⟨k.val % 8, by omega⟩, Finset.mem_coe.2 (Finset.mem_univ _), Fin.ext ?_⟩
    show 32 * a.val + 8 * (n % 4) + k.val % 8 = k.val
    omega
  · intro k _
    rw [lhs_apply, if_pos ⟨by
      show (32 * a.val + 8 * (n % 4) + k.val) / 32 = (8 * (n % 4) + a.val) % 8
      rw [q1]; omega, by
      show (32 * a.val + 8 * (n % 4) + k.val) / 8 % 4 = (8 * (n % 4) + a.val) / 8
      rw [q2]; omega⟩]
    have e1 : s (ix2 ⟨8 * (g % 4) + (8 * (n % 4) + a.val) % 8, by omega⟩ ⟨(32 * a.val + 8 * (n % 4) + k.val) % 8, Nat.mod_lt _ (by decide)⟩) = s (ix2 ⟨8 * g + a.val, by omega⟩ k) := by
      congr 2
      · exact Fin.ext (by show 8 * (g % 4) + (8 * (n % 4) + a.val) % 8 = 8 * g + a.val; omega)
      · exact Fin.ext (by show (32 * a.val + 8 * (n % 4) + k.val) % 8 = k.val; omega)
    rw [e1]
    congr 1
    have e2 : ∀ (j : ℕ) (u : Fin 8) (v : Fin 32) (w : Fin 128), u = a → 32 * j + v.val = 8 * n + k.val → w = d →
        blockP p g j (ix3 u v w) = p (ix3 ⟨8 * g + a.val, by omega⟩ ⟨8 * n + k.val, by omega⟩ d) := by
      rintro j u v w rfl hv rfl
      unfold blockP
      congr 1
      funext i
      apply Fin.ext
      match i with
      | 0 => show (8 * g + u.val) % 32 = 8 * g + u.val; omega
      | 1 => show (32 * j + v.val) % 1024 = 8 * n + k.val; omega
      | 2 => show w.val % 128 = w.val; omega
    split
    · rename_i hd
      refine (e2 _ _ _ _ (Fin.ext ?_) ?_ (Fin.ext ?_)).symm
      · show (32 * a.val + 8 * (n % 4) + k.val) / 32 = a.val; omega
      · show 32 * (2 * (n / 8)) + (32 * a.val + 8 * (n % 4) + k.val) % 32 = _; omega
      · show 128 * (n / 4 % 2) + d.val = d.val; omega
    · rename_i hd
      refine (e2 _ _ _ _ (Fin.ext ?_) ?_ (Fin.ext ?_)).symm
      · show (32 * a.val + 8 * (n % 4) + k.val) / 32 = a.val; omega
      · show 32 * (2 * (n / 8) + 1) + (32 * a.val + 8 * (n % 4) + k.val) % 32 = _; omega
      · show 128 * (n / 4 % 2) + d.val - 128 = d.val; omega

variable (p : Vec Ideal SP .fp8e4m3) (s : Vec Ideal SS .f32) (b : Vec Ideal SR .f32) (x : Vec Ideal SX .bf16) (gain : Vec Ideal SR .f32)

theorem rT_apply (g n : ℕ) (hg : g < 4) (hn : n < 128) (a : Fin 8) (d : Fin 128) :
    rT p s b x g n (ix2 a d) = resS p s b x ⟨8 * g + a.val, by omega⟩ ⟨128 * n + d.val, by omega⟩ := by
  unfold rT tile1 tile8
  pointwise
  rw [acc_apply p s g n hg hn]
  unfold resS
  have eb : atR 0 (128 * n + d.val) = ix2 0 ⟨128 * n + d.val, by omega⟩ := by
    funext i; apply Fin.ext
    match i with
    | 0 => rfl
    | 1 => show (128 * n + d.val) % 16384 = 128 * n + d.val; omega
  have ex : atX (8 * g + a.val) (128 * n + d.val) = ix2 ⟨8 * g + a.val, by omega⟩ ⟨128 * n + d.val, by omega⟩ := by
    funext i; apply Fin.ext
    match i with
    | 0 => show (8 * g + a.val) % 32 = 8 * g + a.val; omega
    | 1 => show (128 * n + d.val) % 16384 = 128 * n + d.val; omega
  rw [eb, ex]
  congr 2
  refine Finset.sum_congr rfl fun k _ => ?_
  congr 3
  · exact Fin.ext (by show 8 * n + k.val = 8 * ((128 * n + d.val) / 128) + k.val; omega)
  · exact Fin.ext (by show d.val = (128 * n + d.val) % 128; omega)

theorem r32_apply (g n : ℕ) (hg : g < 4) (hn : n < 128) (a : Fin 8) (d : Fin 128) :
    r32T p s b x g n (ix2 a d) = resS p s b x ⟨8 * g + a.val, by omega⟩ ⟨128 * n + d.val, by omega⟩ := rT_apply p s b x g n hg hn a d

theorem wT_apply (g n : ℕ) (hg : g < 4) (hn : n < 128) (a : Fin 8) (d : Fin 128) :
    wT p s b x g n (ix2 a d) = resS p s b x ⟨8 * g + a.val, by omega⟩ ⟨128 * n + d.val, by omega⟩ := by
  unfold wT
  pointwise
  exact r32_apply p s b x g n hg hn a d

/-- A sum over a row, tile by tile and lane by lane. -/
theorem sum_tiles (f : Fin 16384 → EReal) : ∑ d : Fin 128, ∑ n : Fin 128, f ⟨128 * n.val + d.val, by omega⟩ = ∑ j, f j := by
  rw [Finset.sum_comm, ← Finset.sum_product']
  exact Fintype.sum_equiv (finProdFinEquiv (m := 128) (n := 128)) _ _ fun q => by
    show f _ = f _
    congr 1
    exact Fin.ext (by show 128 * q.1.val + q.2.val = q.2.val + 128 * q.1.val; omega)

theorem ss_apply (g : ℕ) (hg : g < 4) (a : Fin 8) (d : Fin 128) : ∀ n, (hn : n ≤ 128) → ssF p s b x g n (ix2 a d) =
    ∑ m : Fin n, resS p s b x ⟨8 * g + a.val, by omega⟩ ⟨128 * m.val + d.val, by omega⟩ * resS p s b x ⟨8 * g + a.val, by omega⟩ ⟨128 * m.val + d.val, by omega⟩
  | 0, _ => by simp only [ssF]; pointwise; exact (Fin.sum_univ_zero _).symm
  | n + 1, hn => by
    simp only [ssF]
    pointwise
    rw [ss_apply g hg a d n (by omega), r32_apply p s b x g n hg (by omega), Fin.sum_univ_castSucc]
    rfl

/-- A row's factor. -/
def rsS (r : Fin 32) : EReal :=
  Ideal.rsqrt ((∑ j, resS p s b x r j * resS p s b x r j) * Ideal.ofBits .f32 0x38800000#32 + Ideal.ofBits .f32 0x358637BD#32)

theorem rs_apply (g : ℕ) (hg : g < 4) (a : Fin 8) (d : Fin 128) : rsF p s b x g (ix2 a d) = rsS p s b x ⟨8 * g + a.val, by omega⟩ := by
  unfold rsF
  pointwise
  unfold rsS
  rw [← sum_tiles]
  simp only [ss_apply p s b x g hg a _ 128 le_rfl]

def yS (r : Fin 32) (j : Fin 16384) : EReal := resS p s b x r j * rsS p s b x r * gain (ix2 0 j)

theorem yT_apply (g n : ℕ) (hg : g < 4) (hn : n < 128) (a : Fin 8) (d : Fin 128) :
    yT p s b x gain g n (ix2 a d) = yS p s b x gain ⟨8 * g + a.val, by omega⟩ ⟨128 * n + d.val, by omega⟩ := by
  unfold yT tile1
  pointwise
  rw [wT_apply p s b x g n hg hn, rs_apply p s b x g hg]
  have eb : atR 0 (128 * n + d.val) = ix2 0 ⟨128 * n + d.val, by omega⟩ := by
    funext i; apply Fin.ext
    match i with
    | 0 => rfl
    | 1 => show (128 * n + d.val) % 16384 = 128 * n + d.val; omega
  rw [eb]
  rfl

theorem am_apply (g : ℕ) (hg : g < 4) (a : Fin 8) (d : Fin 128) : ∀ n, (hn : n ≤ 128) → amF p s b x gain g n (ix2 a d) =
    Finset.univ.fold max 0 fun m : Fin n => max (yS p s b x gain ⟨8 * g + a.val, by omega⟩ ⟨128 * m.val + d.val, by omega⟩) (-yS p s b x gain ⟨8 * g + a.val, by omega⟩ ⟨128 * m.val + d.val, by omega⟩)
  | 0, _ => by simp only [amF]; pointwise; rfl
  | n + 1, hn => by
    simp only [amF]
    pointwise
    rw [am_apply g hg a d n (by omega), yT_apply p s b x gain g n hg (by omega)]
    rw [Fin.univ_castSuccEmb, Finset.fold_cons, Finset.fold_map, max_comm]
    rfl

/-- A row's quotient. -/
def qS (r : Fin 32) : EReal :=
  (Finset.univ.fold max (Ideal.ofBits .f32 0xFF800000#32) fun j => max (yS p s b x gain r j) (-yS p s b x gain r j)) * Ideal.ofBits .f32 0x3B124925#32

theorem abs_nonneg' (y : EReal) : 0 ≤ max y (-y) := by
  rcases le_total 0 y with h | h
  · exact le_max_of_le_left h
  · exact le_max_of_le_right (EReal.neg_nonneg.2 h)

/-- The greatest magnitude of a row, tile by tile and lane by lane. -/
theorem max_tiles (z : EReal) (f : Fin 16384 → EReal) (h0 : ∀ j, 0 ≤ f j) :
    (Finset.univ.fold max z fun d : Fin 128 => Finset.univ.fold max 0 fun n : Fin 128 => f ⟨128 * n.val + d.val, by omega⟩) = Finset.univ.fold max z f := by
  refine eq_of_forall_ge_iff fun c => ?_
  simp only [Finset.fold_max_le, Finset.mem_univ, forall_true_left]
  refine and_congr_right fun _ => ⟨fun h j => ?_, fun h d => ⟨(h0 0).trans (h 0), fun n => h _⟩⟩
  have := (h ⟨j.val % 128, Nat.mod_lt _ (by decide)⟩).2 ⟨j.val / 128, by omega⟩
  have e : (⟨128 * (j.val / 128) + j.val % 128, by omega⟩ : Fin 16384) = j := Fin.ext (by show 128 * (j.val / 128) + j.val % 128 = j.val; omega)
  rw [← e]; exact this

theorem q_apply (g : ℕ) (hg : g < 4) (a : Fin 8) (d : Fin 128) : qF p s b x gain g (ix2 a d) = qS p s b x gain ⟨8 * g + a.val, by omega⟩ := by
  unfold qF
  pointwise
  simp only [am_apply p s b x gain g hg a _ 128 le_rfl]
  unfold qS
  rw [← max_tiles _ _ fun j => abs_nonneg' _]

theorem atT_ix (r j : ℕ) : atT r j = ix2 ⟨r % 8, Nat.mod_lt _ (by decide)⟩ ⟨j % 128, Nat.mod_lt _ (by decide)⟩ := idx2_ext rfl rfl

theorem split_row (r : Fin 32) : (⟨8 * (r.val / 8) + r.val % 8, by omega⟩ : Fin 32) = r := Fin.ext (by show 8 * (r.val / 8) + r.val % 8 = r.val; omega)
theorem split_col (j : Fin 16384) : (⟨128 * (j.val / 128) + j.val % 128, by omega⟩ : Fin 16384) = j := Fin.ext (by show 128 * (j.val / 128) + j.val % 128 = j.val; omega)

theorem out6_apply (r : Fin 32) (j : Fin 16384) : out6 p s b x (ix2 r j) = resS p s b x r j := by
  show rT p s b x (r.val / 8) (j.val / 128) (atT r.val j.val) = _
  rw [atT_ix, rT_apply p s b x _ _ (by omega) (by omega)]
  simp only [split_row, split_col]

theorem zF_apply (r : Fin 32) (j : Fin 16384) : zF p s b x gain (ix2 r j) = yS p s b x gain r j * Recv.invS (qS p s b x gain r) := by
  show zT p s b x gain (r.val / 8) (j.val / 128) (atT r.val j.val) = _
  rw [atT_ix]
  unfold zT ysT
  pointwise
  rw [invF_apply, q_apply p s b x gain _ (by omega), yT_apply p s b x gain _ _ (by omega) (by omega)]
  simp only [split_row, split_col]

theorem out7_apply (r : Fin 32) (j : Fin 16384) : out7 p s b x gain (ix2 r j) =
    min (Ideal.ofBits .f32 0x43E00000#32) (max (Ideal.ofBits .f32 0xC3E00000#32) (yS p s b x gain r j * invS (qS p s b x gain r))) := by
  show cT p s b x gain (j.val / 128) (ix2 ⟨r.val % 32, Nat.mod_lt _ (by decide)⟩ ⟨j.val % 128, Nat.mod_lt _ (by decide)⟩) = _
  unfold cT
  pointwise
  rw [← zF_apply]
  have e : atX (r.val % 32) (128 * (j.val / 128) + j.val % 128) = ix2 r j := (atX_eq _ _ _ (by show r.val = _; omega) (by show j.val = _; omega)).symm
  show min _ (max _ (zF p s b x gain (atX (r.val % 32) (128 * (j.val / 128) + j.val % 128)))) = _
  rw [e]

theorem out8_apply (r : Fin 32) (l : Fin 128) : out8 p s b x gain (ix2 r l) = sclS (qS p s b x gain r) := by
  unfold out8
  have h : ∀ (g : ℕ) (a : Fin 8), g < 4 → r.val = 8 * g + a.val → sclF (qF p s b x gain g) (ix2 a l) = sclS (qS p s b x gain r) := by
    intro g a hg hr
    rw [sclF_apply, q_apply p s b x gain g hg]
    congr 2; exact Fin.ext hr.symm
  have hr := r.isLt
  pointwise
  split
  · exact h 0 _ (by decide) (by show r.val = _; simp)
  · split
    · exact h 1 _ (by decide) (by show r.val = 8 * 1 + (r.val - 8); omega)
    · split
      · exact h 2 _ (by decide) (by show r.val = 8 * 2 + (r.val - 8 - 8); omega)
      · exact h 3 _ (by decide) (by show r.val = 8 * 3 + (r.val - 8 - 8 - 8); omega)

end Recv
-- ==== Proof.RefValue.lean ====
/- The reference's results over the extended reals, an element at a time. -/
module

public import proofs.«01_k».proof.Proof.RefRun
public import proofs.«01_k».proof.Proof.Scale
public import Idealize.ShloMosaic.Lib.Pointwise

@[expose] public section

set_option maxRecDepth 16384

noncomputable section

namespace Recv.Ref

open Idealize.ShloMosaic
open Cert.ReferenceIdeal Cert.ReferenceIdeal.Gen Cert.ReferenceIdeal.Value

variable (a0 : Vec Ideal S1x128x8x16384 .fp8e4m3) (a1 : Vec Ideal S1x128x8 .f32) (a2 : Vec Ideal S16384 .f32) (a3 : Vec Ideal S1x128x16384 .bf16) (a4 : Vec Ideal S16384 .f32)

/-- A row of the new residual. -/
def res (R : Fin 128) (j : Fin 16384) : EReal := (∑ k : Fin 8, a0 (ix4 0 R k j) * a1 (ix3 0 R k)) + a2 (ix1 j) + a3 (ix3 0 R j)

/-- A row's factor, given the row. -/
def rs (f : Fin 16384 → EReal) : EReal := Ideal.rsqrt (Ideal.div (∑ j, f j * f j) (Ideal.ofBits .f32 0x46800000#32) + Ideal.ofBits .f32 0x358637BD#32)

/-- A row normalised, given the row and the gains. -/
def y (f w : Fin 16384 → EReal) (j : Fin 16384) : EReal := f j * rs f * w j

/-- A row's quotient. -/
def q (f w : Fin 16384 → EReal) : EReal :=
  (Finset.univ.fold max (Ideal.ofBits .f32 0xFF800000#32) fun j => max (y f w j) (-y f w j)) * Ideal.ofBits .f32 0x3B124925#32

/-- A magnitude, spelled out. -/
theorem absf_max (v : EReal) : (FloatOps.absf (F := Ideal) (φ := .f32) v : EReal) = max v (-v) := rfl

theorem pay4_apply (R : Fin 128) (j : Fin 16384) : k0_pay4 a0 a1 a2 a3 (ix3 0 R j) = res a0 a1 a2 a3 R j := by
  unfold res
  pointwise [k0_pay4]

theorem pay5_apply (R : Fin 128) (j : Fin 16384) : k0_pay5 a0 a1 a2 a3 a4 (ix3 0 R j) = y (res a0 a1 a2 a3 R) (fun j => a4 (ix1 j)) j := by
  have h := pay4_apply a0 a1 a2 a3 R
  unfold k0_pay5
  generalize k0_pay4 a0 a1 a2 a3 = X at h
  generalize res a0 a1 a2 a3 R = f at h
  unfold y rs
  pointwise
  simp only [h]

/-- A row's greatest magnitude, of any array. -/
theorem max_apply (X : FVec Ideal S1x128x16384 .f32) (hr : S1x128x16384.Reduces [2] S1x128) (R : Fin 128) (f : Fin 16384 → EReal) (h : ∀ j, X (ix3 0 R j) = f j) :
    multiReduction (F := Ideal) .maximumf [2] S1x128 (absf X) 0xFF800000#32 hr (.inl rfl) rfl (ix2 0 R)
      = Finset.univ.fold max (Ideal.ofBits .f32 0xFF800000#32) fun j => max (f j) (-f j) := by
  refine (Ideal.multiReduction_maximumf_single (absf X) 0xFF800000#32 hr _ _ (ix2 0 R)).trans ?_
  have e : ∀ k : Fin 16384, hr.lift (ix2 0 R) k = ix3 0 R k := fun k => by
    funext a; apply Fin.ext
    match a with
    | ⟨0, _⟩ => rfl
    | ⟨1, _⟩ => rfl
    | ⟨2, _⟩ => rfl
  have e2 : (absf X ∘ hr.lift (ix2 0 R) : Fin 16384 → EReal) = fun j => max (f j) (-f j) := funext fun k => by
    show max (X (hr.lift (ix2 0 R) k)) (-X (hr.lift (ix2 0 R) k)) = _
    rw [e, h]
  exact congrArg (fun g => Finset.univ.fold max (Ideal.ofBits .f32 0xFF800000#32) g) e2

theorem pay6_eq : k0_pay6 a0 a1 a2 a3 a4 = mulf (multiReduction (F := Ideal) .maximumf [2] S1x128 (absf (k0_pay5 a0 a1 a2 a3 a4)) 0xFF800000#32 reduces_S1x128x16384_S1x128 (.inl rfl) rfl)
    (broadcast S1x128 (Scalar.ofBits .f32 0x3B124925#32)) := rfl

theorem mul_at (A : FVec Ideal S1x128 .f32) (b : BitVec 32) (i : S1x128.Idx) (v : EReal) (h : A i = v) :
    mulf A (broadcast S1x128 (Scalar.ofBits .f32 b)) i = v * Ideal.ofBits .f32 b := by subst h; rfl

theorem pay6_apply (R : Fin 128) : k0_pay6 a0 a1 a2 a3 a4 (ix2 0 R) = q (res a0 a1 a2 a3 R) (fun j => a4 (ix1 j)) := by
  rw [pay6_eq, mul_at _ _ _ _ (max_apply (k0_pay5 a0 a1 a2 a3 a4) _ R _ (pay5_apply a0 a1 a2 a3 a4 R))]
  rfl

/-- The exponent, of any quotients. -/
theorem exp_apply (v33 : FVec Ideal S1x128 .f32) (i : S1x128.Idx) :
    k0_pay1 v33 (floor (divf (log v33) (log (broadcast S1x128 (Scalar.ofBits .f32 0x40000000#32))))) k0_pay8 i = refE (v33 i) := rfl

theorem pay1_apply (R : Fin 128) : k0_pay1 (k0_pay6 a0 a1 a2 a3 a4) (k0_pay7 a0 a1 a2 a3 a4) k0_pay8 (ix2 0 R) = refE (q (res a0 a1 a2 a3 R) (fun j => a4 (ix1 j))) :=
  (exp_apply (k0_pay6 a0 a1 a2 a3 a4) (ix2 0 R)).trans (congrArg refE (pay6_apply a0 a1 a2 a3 a4 R))

theorem pay9_eq : k0_pay9 a0 a1 a2 a3 a4 = k0_pay6 a0 a1 a2 a3 a4 := by
  unfold k0_pay9
  rw [View.ld_unit_zero (S := S1x128x8x16384) hz0 _ a0, View.ld_unit_zero (S := S1x128x8) hz1 _ a1, View.ld_unit_zero (S := S16384) hz2 _ a2, View.ld_unit_zero (S := S1x128x16384) hz3 _ a3, View.ld_unit_zero (S := S16384) hz4 _ a4]

theorem pay10_eq : k0_pay10 a0 a1 a2 a3 a4 = k0_pay7 a0 a1 a2 a3 a4 := by
  unfold k0_pay10
  rw [View.ld_unit_zero (S := S1x128x8x16384) hz0 _ a0, View.ld_unit_zero (S := S1x128x8) hz1 _ a1, View.ld_unit_zero (S := S16384) hz2 _ a2, View.ld_unit_zero (S := S1x128x16384) hz3 _ a3, View.ld_unit_zero (S := S16384) hz4 _ a4]

/-- The codes of a quotient's row, and its scale, in the reference's words. -/
theorem pay2_apply (v29 : FVec Ideal S1x128x16384 .f32) (v33 v38 v39 : FVec Ideal S1x128 .f32) (R : Fin 128) (j : Fin 16384) (v e : EReal)
    (h : v29 (ix3 0 R j) = v) (he : k0_pay1 v33 v38 v39 (ix2 0 R) = e) : k0_pay2 v29 v33 v38 v39 (ix3 0 R j) =
      min (Ideal.ofBits .f32 0x43E00000#32) (max (Ideal.ofBits .f32 0xC3E00000#32) (v * Ideal.exp2 (Ideal.ofBits .f32 0x00000000#32 - e))) := by
  unfold k0_pay2
  generalize k0_pay1 v33 v38 v39 = X at he
  subst h he
  rw [bits_zero, show Ideal.exp2 (0 - X (ix2 0 R)) = FloatOps.exp2 (F := Ideal) (φ := .f32) (0 - X (ix2 0 R)) from rfl]
  pointwise

theorem pay3_apply (v33 v38 v39 : FVec Ideal S1x128 .f32) (R : Fin 128) (e : EReal)
    (he : k0_pay1 v33 v38 v39 (ix2 0 R) = e) : k0_pay3 v33 v38 v39 (ix2 0 R) = Ideal.exp2 e := by
  unfold k0_pay3
  generalize k0_pay1 v33 v38 v39 = X at he
  subst he
  rfl

theorem G5_apply (R : Fin 128) (j : Fin 16384) : G5 a0 a1 a2 a3 a4 (ix3 0 R j) = res a0 a1 a2 a3 R j := pay4_apply a0 a1 a2 a3 R j

theorem G6_apply (R : Fin 128) (j : Fin 16384) : G6 a0 a1 a2 a3 a4 (ix3 0 R j) =
    min (Ideal.ofBits .f32 0x43E00000#32) (max (Ideal.ofBits .f32 0xC3E00000#32) (y (res a0 a1 a2 a3 R) (fun j => a4 (ix1 j)) j *
      Ideal.exp2 (Ideal.ofBits .f32 0x00000000#32 - refE (q (res a0 a1 a2 a3 R) (fun j => a4 (ix1 j)))))) := by
  rw [show G6 a0 a1 a2 a3 a4 = k0_pay2 (k0_pay5 a0 a1 a2 a3 a4) (k0_pay6 a0 a1 a2 a3 a4) (k0_pay7 a0 a1 a2 a3 a4) k0_pay8 by rw [← pay9_eq, ← pay10_eq]; rfl]
  exact pay2_apply _ _ _ _ R j _ _ (pay5_apply a0 a1 a2 a3 a4 R j) (pay1_apply a0 a1 a2 a3 a4 R)

theorem G7_apply (R : Fin 128) : G7 a0 a1 a2 a3 a4 (ix2 0 R) = Ideal.exp2 (refE (q (res a0 a1 a2 a3 R) (fun j => a4 (ix1 j)))) := by
  rw [show G7 a0 a1 a2 a3 a4 = k0_pay3 (k0_pay6 a0 a1 a2 a3 a4) (k0_pay7 a0 a1 a2 a3 a4) k0_pay8 by rw [← pay9_eq, ← pay10_eq]; rfl]
  exact pay3_apply _ _ _ R _ (pay1_apply a0 a1 a2 a3 a4 R)

end Recv.Ref
-- ==== Proof.Rows.lean ====
/- A row of the body against a row of the reference: the same factor, the same quotient, and how large the quotient gets. -/
module

public import proofs.«01_k».proof.Proof.Value1
public import proofs.«01_k».proof.Proof.RefValue

@[expose] public section

set_option maxRecDepth 16384

noncomputable section

namespace Recv

open Idealize.ShloMosaic

theorem bits_n : Ideal.ofBits .f32 0x46800000#32 = ((16384 : ℝ) : EReal) := by simp [Ideal.ofBits, Ideal.ieee, -EReal.coe_mul]; norm_num
theorem bits_rn : Ideal.ofBits .f32 0x38800000#32 = ((16384⁻¹ : ℝ) : EReal) := by simp [Ideal.ofBits, Ideal.ieee, -EReal.coe_mul]; norm_num
theorem bits_eps : ∃ e : ℝ, 0 < e ∧ Ideal.ofBits .f32 0x358637BD#32 = (e : EReal) := by
  refine ⟨_, ?_, by simp [Ideal.ofBits, Ideal.ieee, -EReal.coe_mul]; rfl⟩
  positivity
theorem bits_c : Ideal.ofBits .f32 0x3B124925#32 = ((9586981 * (2 : ℝ) ^ (-32 : ℤ) : ℝ) : EReal) := by simp [Ideal.ofBits, Ideal.ieee, -EReal.coe_mul]
theorem bits_bot : Ideal.ofBits .f32 0xFF800000#32 = ⊥ := by simp [Ideal.ofBits, Ideal.ieee]

theorem mean_eq (S : EReal) : S * Ideal.ofBits .f32 0x38800000#32 = Ideal.div S (Ideal.ofBits .f32 0x46800000#32) := by
  rw [bits_n, bits_rn]
  unfold Ideal.div
  rw [if_neg (by norm_cast), EReal.coe_inv]

section
variable (p : Vec Ideal SP .fp8e4m3) (s : Vec Ideal SS .f32) (b : Vec Ideal SR .f32) (x : Vec Ideal SX .bf16) (gain : Vec Ideal SR .f32) (r : Fin 32)

theorem rsS_eq : rsS p s b x r = Ref.rs (resS p s b x r) := by
  unfold rsS Ref.rs
  rw [mean_eq]

theorem yS_eq (j : Fin 16384) : yS p s b x gain r j = Ref.y (resS p s b x r) (fun j => gain (ix2 0 j)) j := by
  unfold yS Ref.y
  rw [rsS_eq]

theorem qS_eq : qS p s b x gain r = Ref.q (resS p s b x r) (fun j => gain (ix2 0 j)) := by
  unfold qS Ref.q
  simp only [yS_eq]
end

theorem sq_nonneg' (a : EReal) : 0 ≤ a * a := by
  rcases le_total 0 a with h | h
  · exact mul_nonneg h h
  · have := mul_nonneg (EReal.neg_nonneg.2 h) (EReal.neg_nonneg.2 h)
    rwa [neg_mul_neg] at this

theorem rsqrt_top : Ideal.rsqrt ⊤ = 0 := rfl
theorem rsqrt_coe (r : ℝ) : Ideal.rsqrt (r : EReal) = if r < 0 then ⊥ else if r = 0 then ⊤ else (((Real.sqrt r)⁻¹ : ℝ) : EReal) := rfl

/-- A row's entry times the row's factor is a real number of magnitude at most 128. -/
theorem normed (f : Fin 16384 → EReal) (j : Fin 16384) : ∃ v : ℝ, f j * Ref.rs f = (v : EReal) ∧ |v| ≤ 128 := by
  have hS : f j * f j ≤ ∑ j, f j * f j := Finset.single_le_sum (f := fun j => f j * f j) (fun j _ => sq_nonneg' (f j)) (Finset.mem_univ j)
  unfold Ref.rs
  rw [← mean_eq, bits_rn]
  obtain ⟨e, he, hb⟩ := bits_eps
  rw [hb]
  generalize ∑ j, f j * f j = S at hS
  have h0 := (sq_nonneg' (f j)).trans hS
  induction S with
  | bot => exact absurd h0 (by simp)
  | top =>
    refine ⟨0, ?_, by norm_num⟩
    rw [EReal.top_mul_coe_of_pos (by norm_num), EReal.top_add_coe, rsqrt_top, mul_zero]
    rfl
  | coe S =>
    generalize f j = u at hS
    induction u with
    | bot => simp at hS
    | top => simp at hS
    | coe u =>
      have hS' : u * u ≤ S := by exact_mod_cast hS
      have hS0 : 0 ≤ S := by exact_mod_cast h0
      rw [← EReal.coe_mul, ← EReal.coe_add]
      have hp : 0 < S * 16384⁻¹ + e := by positivity
      rw [rsqrt_coe, if_neg (not_lt.2 hp.le), if_neg hp.ne', ← EReal.coe_mul]
      refine ⟨_, rfl, ?_⟩
      rw [abs_mul, abs_of_nonneg (inv_nonneg.2 (Real.sqrt_nonneg _)), ← div_eq_mul_inv, div_le_iff₀ (Real.sqrt_pos.2 hp)]
      refine abs_le_of_sq_le_sq ?_ (by positivity)
      rw [mul_pow, Real.sq_sqrt hp.le]
      nlinarith

theorem y_bound (f w : Fin 16384 → EReal) (hw : ∀ j, max (w j) (-w j) ≤ (((2 : ℝ) ^ (127 : ℕ) : ℝ) : EReal)) (j : Fin 16384) :
    max (Ref.y f w j) (-Ref.y f w j) ≤ (((2 : ℝ) ^ (134 : ℕ) : ℝ) : EReal) := by
  unfold Ref.y
  obtain ⟨v, hv, hb⟩ := normed f j
  rw [hv]
  have h := hw j
  generalize w j = u at h
  induction u with
  | bot => exact absurd ((le_max_right _ _).trans h) (not_le.2 (EReal.coe_lt_top _))
  | top => exact absurd ((le_max_left _ _).trans h) (not_le.2 (EReal.coe_lt_top _))
  | coe u =>
    have h1 : |u| ≤ 2 ^ 127 := by
      rw [abs_le']
      have := max_le_iff.1 h
      exact ⟨by exact_mod_cast this.1, by have h2 := this.2; rw [← EReal.coe_neg] at h2; exact_mod_cast h2⟩
    rw [← EReal.coe_mul, ← EReal.coe_neg]
    have h2 : |v * u| ≤ 2 ^ 134 := by
      rw [abs_mul]
      calc |v| * |u| ≤ 128 * 2 ^ 127 := mul_le_mul hb h1 (abs_nonneg _) (by norm_num)
        _ = 2 ^ 134 := by norm_num
    refine max_le ?_ ?_
    · exact EReal.coe_le_coe_iff.2 ((le_abs_self _).trans h2)
    · exact EReal.coe_le_coe_iff.2 ((neg_le_abs _).trans h2)

theorem q_bound (f w : Fin 16384 → EReal) (hw : ∀ j, max (w j) (-w j) ≤ (((2 : ℝ) ^ (127 : ℕ) : ℝ) : EReal)) :
    0 ≤ Ref.q f w ∧ Ref.q f w < (((2 : ℝ) ^ (126 : ℤ) : ℝ) : EReal) := by
  unfold Ref.q
  rw [bits_bot, bits_c]
  have h0 : (0 : EReal) ≤ Finset.univ.fold max ⊥ fun j => max (Ref.y f w j) (-Ref.y f w j) :=
    Finset.le_fold_max _ |>.2 (Or.inr ⟨0, Finset.mem_univ _, abs_nonneg' _⟩)
  have h1 : (Finset.univ.fold max ⊥ fun j => max (Ref.y f w j) (-Ref.y f w j)) ≤ (((2 : ℝ) ^ (134 : ℕ) : ℝ) : EReal) :=
    (Finset.fold_max_le _).2 ⟨bot_le, fun j _ => y_bound f w hw j⟩
  generalize (Finset.univ.fold max ⊥ fun j => max (Ref.y f w j) (-Ref.y f w j)) = M at h0 h1
  induction M with
  | bot => exact absurd h0 (by simp)
  | top => exact absurd h1 (not_le.2 (EReal.coe_lt_top _))
  | coe M =>
    have m0 : 0 ≤ M := by exact_mod_cast h0
    have m1 : M ≤ 2 ^ 134 := EReal.coe_le_coe_iff.1 h1
    rw [← EReal.coe_mul]
    refine ⟨by exact_mod_cast (by positivity : (0 : ℝ) ≤ M * (9586981 * 2 ^ (-32 : ℤ))), EReal.coe_lt_coe_iff.2 ?_⟩
    calc M * (9586981 * (2 : ℝ) ^ (-32 : ℤ)) ≤ 2 ^ 134 * (9586981 * (2 : ℝ) ^ (-32 : ℤ)) := by gcongr
      _ < 2 ^ (126 : ℤ) := by norm_num

end Recv
-- ==== Proof.Outs.lean ====
/- What the idealized kernel's program leaves in its results: the host lines before the region, the blocks of the windows,
   the arrays the region writes, and the host lines after it. -/
module

public import proofs.«01_k».proof.Proof.RunI
public import proofs.«01_k».proof.Proof.Rows

@[expose] public section

set_option maxRecDepth 16384

noncomputable section

namespace Cert.KernelIdeal.Run

open Idealize.ShloMosaic Idealize.ShloMosaic.TcCoe Idealize.ShloMosaic.Tactic
open Idealize.ShloMosaic.Pipeline (Dat)
open Cert.KernelIdeal.Gen Recv

variable (m : (ℓ : Loc nD τ sig) → Buf (Elt Ideal) ℓ) (ρ : Dev nD → PrngReg)

/-! ## The host lines before the region -/

abbrev a0 (c : Dev nD) : Vec Ideal S1x128x8x16384 .fp8e4m3 := m ((c : Thread nD τ).loc main_arg0)
abbrev a1 (c : Dev nD) : Vec Ideal S1x128x8 .f32 := m ((c : Thread nD τ).loc main_arg1)
abbrev a2 (c : Dev nD) : Vec Ideal S16384 .f32 := m ((c : Thread nD τ).loc main_arg2)
abbrev a3 (c : Dev nD) : Vec Ideal S1x128x16384 .bf16 := m ((c : Thread nD τ).loc main_arg3)
abbrev a4 (c : Dev nD) : Vec Ideal S16384 .f32 := m ((c : Thread nD τ).loc main_arg4)

theorem V_v2 (c : Dev nD) : V m c main_v2 = shapeCast S128x1024x128 (transpose S128x128x8x128 [0, 2, 1, 3]
    (shapeCast S128x8x128x128 (a0 m c) shapeCasts_S1x128x8x16384_S128x8x128x128) transposes_S128x8x128x128_S128x128x8x128_0_2_1_3) shapeCasts_S128x128x8x128_S128x1024x128 := by
  rfl
theorem V_v3 (c : Dev nD) : V m c main_v3 = shapeCast S128x8 (a1 m c) shapeCasts_S1x128x8_S128x8 := by
  rfl
theorem V_v4 (c : Dev nD) : V m c main_v4 = shapeCast S1x16384 (a2 m c) shapeCasts_S16384_S1x16384 := by
  rfl
theorem V_v5 (c : Dev nD) : V m c main_v5 = shapeCast S128x16384 (a3 m c) shapeCasts_S1x128x16384_S128x16384 := by
  rfl
theorem V_v6 (c : Dev nD) : V m c main_v6 = shapeCast S1x16384 (a4 m c) shapeCasts_S16384_S1x16384 := by
  rfl

theorem v2_apply (c : Dev nD) (R : Fin 128) (K : Fin 1024) (l : Fin 128) :
    (V m c main_v2 : Vec Ideal S128x1024x128 .fp8e4m3) (ix3 R K l) = a0 m c (ix4 0 R ⟨K.val % 8, by omega⟩ ⟨K.val / 8 * 128 + l.val, by omega⟩) := by
  rw [V_v2]
  generalize a0 m c = A
  pointwise
theorem v3_apply (c : Dev nD) (R : Fin 128) (k : Fin 8) : (V m c main_v3 : Vec Ideal S128x8 .f32) (ix2 R k) = a1 m c (ix3 0 R k) := by
  rw [V_v3]
  generalize a1 m c = A
  pointwise
theorem v4_apply (c : Dev nD) (j : Fin 16384) : (V m c main_v4 : Vec Ideal S1x16384 .f32) (ix2 0 j) = a2 m c (ix1 j) := by
  rw [V_v4]
  generalize a2 m c = A
  pointwise
theorem v5_apply (c : Dev nD) (R : Fin 128) (j : Fin 16384) : (V m c main_v5 : Vec Ideal S128x16384 .bf16) (ix2 R j) = a3 m c (ix3 0 R j) := by
  rw [V_v5]
  generalize a3 m c = A
  pointwise
theorem v6_apply (c : Dev nD) (j : Fin 16384) : (V m c main_v6 : Vec Ideal S1x16384 .f32) (ix2 0 j) = a4 m c (ix1 j) := by
  rw [V_v6]
  generalize a4 m c = A
  pointwise

/-! ## The blocks: point `t` has rows `32 t` to `32 t + 31` -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

/-- Row `r` of point `t`, as a row of the whole. -/
def row (t : Fin cfg0.N) (r : Fin 32) : Fin 128 := ⟨32 * t.val + r.val, by have : t.val < 4 := t.isLt; omega⟩

theorem emb0 (t : Fin cfg0.N) (r : Fin 32) (K : Fin 1024) (l : Fin 128) : ((cfg0.win 0).blk t).view.emb (ix3 r K l : S32x1024x128.Idx) = (ix3 (row t r) K l : S128x1024x128.Idx) := by
  obtain ⟨e0, e1, e2⟩ := idx0 t
  funext a; apply Fin.ext
  match a with
  | ⟨0, _⟩ => show win0_0.index t (0 : Fin 3) * 32 + 1 * r.val = 32 * t.val + r.val; omega
  | ⟨1, _⟩ => show win0_0.index t (1 : Fin 3) * 1024 + 1 * K.val = K.val; omega
  | ⟨2, _⟩ => show win0_0.index t (2 : Fin 3) * 128 + 1 * l.val = l.val; omega
theorem emb1 (t : Fin cfg0.N) (r : Fin 32) (k : Fin 8) : ((cfg0.win 1).blk t).view.emb (ix2 r k : S32x8.Idx) = (ix2 (row t r) k : S128x8.Idx) := by
  obtain ⟨e0, e1⟩ := idx1 t
  funext a; apply Fin.ext
  match a with
  | ⟨0, _⟩ => show win0_1.index t (0 : Fin 2) * 32 + 1 * r.val = 32 * t.val + r.val; omega
  | ⟨1, _⟩ => show win0_1.index t (1 : Fin 2) * 8 + 1 * k.val = k.val; omega
theorem emb2 (t : Fin cfg0.N) (j : Fin 16384) : ((cfg0.win 2).blk t).view.emb (ix2 0 j : S1x16384.Idx) = (ix2 0 j : S1x16384.Idx) := by
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 16384 + 1 * j.val = j.val; omega
theorem emb3 (t : Fin cfg0.N) (r : Fin 32) (j : Fin 16384) : ((cfg0.win 3).blk t).view.emb (ix2 r j : S32x16384.Idx) = (ix2 (row t r) j : S128x16384.Idx) := by
  obtain ⟨e0, e1⟩ := idx3 t
  funext a; apply Fin.ext
  match a with
  | ⟨0, _⟩ => show win0_3.index t (0 : Fin 2) * 32 + 1 * r.val = 32 * t.val + r.val; omega
  | ⟨1, _⟩ => show win0_3.index t (1 : Fin 2) * 16384 + 1 * j.val = j.val; omega
theorem emb4 (t : Fin cfg0.N) (j : Fin 16384) : ((cfg0.win 4).blk t).view.emb (ix2 0 j : S1x16384.Idx) = (ix2 0 j : S1x16384.Idx) := by
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 16384 + 1 * j.val = j.val; omega
theorem emb5 (t : Fin cfg0.N) (r : Fin 32) (j : Fin 16384) : ((cfg0.win 5).blk t).view.emb (ix2 r j : S32x16384.Idx) = (ix2 (row t r) j : S128x16384.Idx) := by
  obtain ⟨e0, e1⟩ := idx5 t
  funext a; apply Fin.ext
  match a with
  | ⟨0, _⟩ => show win0_5.index t (0 : Fin 2) * 32 + 1 * r.val = 32 * t.val + r.val; omega
  | ⟨1, _⟩ => show win0_5.index t (1 : Fin 2) * 16384 + 1 * j.val = j.val; omega
theorem emb6 (t : Fin cfg0.N) (r : Fin 32) (j : Fin 16384) : ((cfg0.win 6).blk t).view.emb (ix2 r j : S32x16384.Idx) = (ix2 (row t r) j : S128x16384.Idx) := by
  obtain ⟨e0, e1⟩ := idx6 t
  funext a; apply Fin.ext
  match a with
  | ⟨0, _⟩ => show win0_6.index t (0 : Fin 2) * 32 + 1 * r.val = 32 * t.val + r.val; omega
  | ⟨1, _⟩ => show win0_6.index t (1 : Fin 2) * 16384 + 1 * j.val = j.val; omega
theorem emb7 (t : Fin cfg0.N) (r : Fin 32) (l : Fin 128) : ((cfg0.win 7).blk t).view.emb (ix2 r l : S32x128.Idx) = (ix2 (row t r) l : S128x128.Idx) := by
  obtain ⟨e0, e1⟩ := idx7 t
  funext a; apply Fin.ext
  match a with
  | ⟨0, _⟩ => show win0_7.index t (0 : Fin 2) * 32 + 1 * r.val = 32 * t.val + r.val; omega
  | ⟨1, _⟩ => show win0_7.index t (1 : Fin 2) * 128 + 1 * l.val = l.val; omega

theorem blk1_apply (c : Dev nD) (t : Fin cfg0.N) (r : Fin 32) (K : Fin 1024) (l : Fin 128) :
    blk1 m c t (ix3 r K l) = a0 m c (ix4 0 (row t r) ⟨K.val % 8, by omega⟩ ⟨K.val / 8 * 128 + l.val, by omega⟩) := by
  show V m c main_v2 (((cfg0.win 0).blk t).view.emb (ix3 r K l : S32x1024x128.Idx)) = _
  rw [emb0]; exact v2_apply m c _ _ _
theorem blk2_apply (c : Dev nD) (t : Fin cfg0.N) (r : Fin 32) (k : Fin 8) : blk2 m c t (ix2 r k) = a1 m c (ix3 0 (row t r) k) := by
  show V m c main_v3 (((cfg0.win 1).blk t).view.emb (ix2 r k : S32x8.Idx)) = _
  rw [emb1]; exact v3_apply m c _ _
theorem blk3_apply (c : Dev nD) (t : Fin cfg0.N) (j : Fin 16384) : blk3 m c t (ix2 0 j) = a2 m c (ix1 j) := by
  show V m c main_v4 (((cfg0.win 2).blk t).view.emb (ix2 0 j : S1x16384.Idx)) = _
  rw [emb2]; exact v4_apply m c _
theorem blk4_apply (c : Dev nD) (t : Fin cfg0.N) (r : Fin 32) (j : Fin 16384) : blk4 m c t (ix2 r j) = a3 m c (ix3 0 (row t r) j) := by
  show V m c main_v5 (((cfg0.win 3).blk t).view.emb (ix2 r j : S32x16384.Idx)) = _
  rw [emb3]; exact v5_apply m c _ _
theorem blk5_apply (c : Dev nD) (t : Fin cfg0.N) (j : Fin 16384) : blk5 m c t (ix2 0 j) = a4 m c (ix1 j) := by
  show V m c main_v6 (((cfg0.win 4).blk t).view.emb (ix2 0 j : S1x16384.Idx)) = _
  rw [emb4]; exact v6_apply m c _

/-! ## The region's results -/

/-- A row of the body's residual is the reference's. -/
theorem res_eq (c : Dev nD) (t : Fin cfg0.N) (r : Fin 32) :
    resS (blk1 m c t) (blk2 m c t) (blk3 m c t) (blk4 m c t) r = Ref.res (a0 m c) (a1 m c) (a2 m c) (a3 m c) (row t r) := by
  funext j
  unfold resS Ref.res
  rw [blk3_apply, blk4_apply]
  congr 2
  refine Finset.sum_congr rfl fun k _ => ?_
  rw [blk1_apply, blk2_apply, mul_comm]
  congr 3
  · exact Fin.ext (by show (8 * (j.val / 128) + k.val) % 8 = k.val; omega)
  · exact Fin.ext (by show (8 * (j.val / 128) + k.val) / 8 * 128 + j.val % 128 = j.val; omega)

/-- The gains. -/
abbrev gains (c : Dev nD) : Fin 16384 → EReal := fun j => a4 m c (ix1 j)

/-- A row's exponent factor and scale, in the reference's words. -/
theorem quot_eq (c : Dev nD) (hg : ∀ j, max (gains m c j) (-gains m c j) ≤ (((2 : ℝ) ^ (127 : ℕ) : ℝ) : EReal)) (t : Fin cfg0.N) (r : Fin 32) :
    sclS (qS (blk1 m c t) (blk2 m c t) (blk3 m c t) (blk4 m c t) (blk5 m c t) r) = Ideal.exp2 (refE (Ref.q (Ref.res (a0 m c) (a1 m c) (a2 m c) (a3 m c) (row t r)) (gains m c)))
      ∧ invS (qS (blk1 m c t) (blk2 m c t) (blk3 m c t) (blk4 m c t) (blk5 m c t) r)
        = Ideal.exp2 (Ideal.ofBits .f32 0x00000000#32 - refE (Ref.q (Ref.res (a0 m c) (a1 m c) (a2 m c) (a3 m c) (row t r)) (gains m c))) := by
  rw [qS_eq, res_eq, show (fun j => blk5 m c t (ix2 0 j)) = gains m c from funext fun j => blk5_apply m c t j]
  obtain ⟨h0, h1⟩ := q_bound (Ref.res (a0 m c) (a1 m c) (a2 m c) (a3 m c) (row t r)) (gains m c) hg
  exact scale_eq _ h0 h1

end Cert.KernelIdeal.Run
-- ==== Proof.Final.lean ====
/- What the idealized kernel's program leaves in its results, on gains within the range claimed: the arrays its region
   writes, and its results after the host lines that follow. -/
module

public import proofs.«01_k».proof.Proof.Outs
public import proofs.«01_k».proof.Proof.Gen.Pre_gain_in_range

@[expose] public section

set_option maxRecDepth 16384

noncomputable section

namespace Cert.KernelIdeal.Run

open Idealize.ShloMosaic Idealize.ShloMosaic.TcCoe Idealize.ShloMosaic.Tactic
open Idealize.ShloMosaic.Pipeline (Dat)
open Cert.KernelIdeal.Gen Recv

variable (m : (ℓ : Loc nD τ sig) → Buf (Elt Ideal) ℓ) (ρ : Dev nD → PrngReg)

/-- An array without its leading axis of one. -/
def flat {ty : EltTy} (G : Vec Ideal S1x128x16384 ty) : Vec Ideal S128x16384 ty := fun i => G (ix3 0 (i 0) (i 1))
theorem flat_apply {ty : EltTy} (G : Vec Ideal S1x128x16384 ty) (R : Fin 128) (j : Fin 16384) : flat G (ix2 R j) = G (ix3 0 R j) := rfl
/-- A row's entries, each on every lane of its own row. -/
def lanes {ty : EltTy} (G : Vec Ideal S1x128 ty) : Vec Ideal S128x128 ty := fun i => G (ix2 0 (i 0))
theorem lanes_apply {ty : EltTy} (G : Vec Ideal S1x128 ty) (R l : Fin 128) : lanes G (ix2 R l) = G (ix2 0 R) := rfl

/-- The reference's results at this program's arguments. -/
def want5 (c : Dev nD) : Vec Ideal S1x128x16384 .bf16 := ReferenceIdeal.Value.G5 (a0 m c) (a1 m c) (a2 m c) (a3 m c) (a4 m c)
def want6 (c : Dev nD) : Vec Ideal S1x128x16384 .fp8e4m3 := ReferenceIdeal.Value.G6 (a0 m c) (a1 m c) (a2 m c) (a3 m c) (a4 m c)
def want7 (c : Dev nD) : Vec Ideal S1x128 .f32 := ReferenceIdeal.Value.G7 (a0 m c) (a1 m c) (a2 m c) (a3 m c) (a4 m c)

theorem point5 (c : Dev nD) (t : Fin cfg0.N) (r : Fin 32) (j : Fin 16384) :
    out6 (blk1 m c t) (blk2 m c t) (blk3 m c t) (blk4 m c t) (ix2 r j) = flat (want5 m c) (ix2 (row t r) j) :=
  ((out6_apply _ _ _ _ r j).trans (congrFun (res_eq m c t r) j)).trans ((flat_apply (want5 m c) (row t r) j).trans (Ref.G5_apply _ _ _ _ (a4 m c) (row t r) j)).symm

theorem point6 (c : Dev nD) (hg : ∀ j, max (gains m c j) (-gains m c j) ≤ (((2 : ℝ) ^ (127 : ℕ) : ℝ) : EReal)) (t : Fin cfg0.N) (r : Fin 32) (j : Fin 16384) :
    out7 (blk1 m c t) (blk2 m c t) (blk3 m c t) (blk4 m c t) (blk5 m c t) (ix2 r j) = flat (want6 m c) (ix2 (row t r) j) := by
  rw [flat_apply, want6, Ref.G6_apply, out7_apply, (quot_eq m c hg t r).2, yS_eq, res_eq, show (fun j => blk5 m c t (ix2 0 j)) = gains m c from funext fun j => blk5_apply m c t j]

theorem point7 (c : Dev nD) (hg : ∀ j, max (gains m c j) (-gains m c j) ≤ (((2 : ℝ) ^ (127 : ℕ) : ℝ) : EReal)) (t : Fin cfg0.N) (r : Fin 32) (l : Fin 128) :
    out8 (blk1 m c t) (blk2 m c t) (blk3 m c t) (blk4 m c t) (blk5 m c t) (ix2 r l) = lanes (want7 m c) (ix2 (row t r) l) := by
  rw [lanes_apply, want7, Ref.G7_apply, out8_apply, (quot_eq m c hg t r).1]

/-- The point and the row in it of a row of the whole. -/
def pt (R : Fin 128) : Fin cfg0.N := ⟨R.val / 32, by show R.val / 32 < 4; omega⟩
theorem row_pt (R : Fin 128) : row (pt R) ⟨R.val % 32, by omega⟩ = R := Fin.ext (by show 32 * (R.val / 32) + R.val % 32 = R.val; omega)

/-- A block agrees with the array it is flushed to when it does so entry by entry. -/
theorem cut5 (t : Fin cfg0.N) (X : Vec Ideal S32x16384 .bf16) (A : Vec Ideal S128x16384 .bf16) (h : ∀ r j, X (ix2 r j) = A (ix2 (row t r) j)) :
    (cfg0.win 5).cut (grid0.coords t) X = ((cfg0.win 5).blk t).view.read (Elt Ideal) A := by
  funext (j : S32x16384.Idx)
  obtain ⟨r, j, rfl⟩ : ∃ r k, j = ix2 r k := ⟨j 0, j 1, eq_ix2 j⟩
  show X (ix2 r j) = A (((cfg0.win 5).blk t).view.emb (ix2 r j : S32x16384.Idx))
  rw [emb5]; exact h r j
theorem flushed5 (c : Dev nD) (t : Fin cfg0.N) :
    (dats m 0 c).flushed 5 t = ((cfg0.win 5).blk t).view.read (Elt Ideal) (flat (want5 m c)) :=
  (congrArg ((cfg0.win 5).cut (grid0.coords t)) (after5 m c t)).trans (cut5 t (out6 (blk1 m c t) (blk2 m c t) (blk3 m c t) (blk4 m c t)) (flat (want5 m c)) (point5 m c t))

/-- A block agrees with the array it is flushed to when it does so entry by entry. -/
theorem cut6 (t : Fin cfg0.N) (X : Vec Ideal S32x16384 .fp8e4m3) (A : Vec Ideal S128x16384 .fp8e4m3) (h : ∀ r j, X (ix2 r j) = A (ix2 (row t r) j)) :
    (cfg0.win 6).cut (grid0.coords t) X = ((cfg0.win 6).blk t).view.read (Elt Ideal) A := by
  funext (j : S32x16384.Idx)
  obtain ⟨r, j, rfl⟩ : ∃ r k, j = ix2 r k := ⟨j 0, j 1, eq_ix2 j⟩
  show X (ix2 r j) = A (((cfg0.win 6).blk t).view.emb (ix2 r j : S32x16384.Idx))
  rw [emb6]; exact h r j
theorem flushed6 (c : Dev nD) (hg : ∀ j, max (gains m c j) (-gains m c j) ≤ (((2 : ℝ) ^ (127 : ℕ) : ℝ) : EReal)) (t : Fin cfg0.N) :
    (dats m 0 c).flushed 6 t = ((cfg0.win 6).blk t).view.read (Elt Ideal) (flat (want6 m c)) :=
  (congrArg ((cfg0.win 6).cut (grid0.coords t)) (after6 m c t)).trans (cut6 t (out7 (blk1 m c t) (blk2 m c t) (blk3 m c t) (blk4 m c t) (blk5 m c t)) (flat (want6 m c)) (point6 m c hg t))

/-- A block agrees with the array it is flushed to when it does so entry by entry. -/
theorem cut7 (t : Fin cfg0.N) (X : Vec Ideal S32x128 .f32) (A : Vec Ideal S128x128 .f32) (h : ∀ r j, X (ix2 r j) = A (ix2 (row t r) j)) :
    (cfg0.win 7).cut (grid0.coords t) X = ((cfg0.win 7).blk t).view.read (Elt Ideal) A := by
  funext (j : S32x128.Idx)
  obtain ⟨r, j, rfl⟩ : ∃ r k, j = ix2 r k := ⟨j 0, j 1, eq_ix2 j⟩
  show X (ix2 r j) = A (((cfg0.win 7).blk t).view.emb (ix2 r j : S32x128.Idx))
  rw [emb7]; exact h r j
theorem flushed7 (c : Dev nD) (hg : ∀ j, max (gains m c j) (-gains m c j) ≤ (((2 : ℝ) ^ (127 : ℕ) : ℝ) : EReal)) (t : Fin cfg0.N) :
    (dats m 0 c).flushed 7 t = ((cfg0.win 7).blk t).view.read (Elt Ideal) (lanes (want7 m c)) :=
  (congrArg ((cfg0.win 7).cut (grid0.coords t)) (after7 m c t)).trans (cut7 t (out8 (blk1 m c t) (blk2 m c t) (blk3 m c t) (blk4 m c t) (blk5 m c t)) (lanes (want7 m c)) (point7 m c hg t))

theorem covered5 (i : S128x16384.Idx) : ∃ t : Fin cfg0.N, (cfg0.win 5).flush t = true ∧ i ∈ ((cfg0.win 5).blk t).view.set := by
  obtain ⟨R, j, rfl⟩ : ∃ (R : Fin 128) (j : Fin 16384), i = ix2 R j := ⟨i 0, i 1, eq_ix2 i⟩
  have h := ((cfg0.win 5).blk (pt R)).view.emb_mem_set (ix2 (⟨R.val % 32, by omega⟩ : Fin 32) j : S32x16384.Idx)
  rw [emb5, row_pt] at h
  exact ⟨pt R, flush0_5 _, h⟩
theorem covered6 (i : S128x16384.Idx) : ∃ t : Fin cfg0.N, (cfg0.win 6).flush t = true ∧ i ∈ ((cfg0.win 6).blk t).view.set := by
  obtain ⟨R, j, rfl⟩ : ∃ (R : Fin 128) (j : Fin 16384), i = ix2 R j := ⟨i 0, i 1, eq_ix2 i⟩
  have h := ((cfg0.win 6).blk (pt R)).view.emb_mem_set (ix2 (⟨R.val % 32, by omega⟩ : Fin 32) j : S32x16384.Idx)
  rw [emb6, row_pt] at h
  exact ⟨pt R, flush0_6 _, h⟩
theorem covered7 (i : S128x128.Idx) : ∃ t : Fin cfg0.N, (cfg0.win 7).flush t = true ∧ i ∈ ((cfg0.win 7).blk t).view.set := by
  obtain ⟨R, j, rfl⟩ : ∃ (R : Fin 128) (j : Fin 128), i = ix2 R j := ⟨i 0, i 1, eq_ix2 i⟩
  have h := ((cfg0.win 7).blk (pt R)).view.emb_mem_set (ix2 (⟨R.val % 32, by omega⟩ : Fin 32) j : S32x128.Idx)
  rw [emb7, row_pt] at h
  exact ⟨pt R, flush0_7 _, h⟩
theorem final5 (c : Dev nD) : (dats m 0 c).arrAt 5 cfg0.N = flat (want5 m c) :=
  (dats m 0 c).arrAt_eq_of_cover 5 (flat (want5 m c)) (fun t _ => flushed5 m c t) covered5
theorem final6 (c : Dev nD) (hg : ∀ j, max (gains m c j) (-gains m c j) ≤ (((2 : ℝ) ^ (127 : ℕ) : ℝ) : EReal)) : (dats m 0 c).arrAt 6 cfg0.N = flat (want6 m c) :=
  (dats m 0 c).arrAt_eq_of_cover 6 (flat (want6 m c)) (fun t _ => flushed6 m c hg t) covered6
theorem final7 (c : Dev nD) (hg : ∀ j, max (gains m c j) (-gains m c j) ≤ (((2 : ℝ) ^ (127 : ℕ) : ℝ) : EReal)) : (dats m 0 c).arrAt 7 cfg0.N = lanes (want7 m c) :=
  (dats m 0 c).arrAt_eq_of_cover 7 (lanes (want7 m c)) (fun t _ => flushed7 m c hg t) covered7

/-! ## The host lines after the region -/

/-- Each result after those lines, over any contents the region leaves. -/
theorem after8 (W : Valuation τ sig (Elt Ideal)) : StableHlo.after hostOps1 W (Proc.devRef .tc main_v8)
    = shapeCast S1x128x16384 (W (Proc.devRef .tc main_v7_0) : Vec Ideal S128x16384 .bf16) shapeCasts_S128x16384_S1x128x16384 := rfl
theorem after9 (W : Valuation τ sig (Elt Ideal)) : StableHlo.after hostOps1 W (Proc.devRef .tc main_v9)
    = shapeCast S1x128x16384 (W (Proc.devRef .tc main_v7_1) : Vec Ideal S128x16384 .fp8e4m3) shapeCasts_S128x16384_S1x128x16384 := rfl
theorem after12 (W : Valuation τ sig (Elt Ideal)) : StableHlo.after hostOps1 W (Proc.devRef .tc main_v12)
    = shapeCast S1x128 (shapeCast S128 (extractStridedSlice S128x1 ![0, 0] (W (Proc.devRef .tc main_v7_2) : Vec Ideal S128x128 .f32) slices_S128x128_S128x1_0_0)
        shapeCasts_S128x1_S128) shapeCasts_S128_S1x128 := rfl

theorem arr_inj : Function.Injective (Pipeline.arrRef spec0) := by decide

/-- The leading axis put back. -/
theorem lead_apply {ty : EltTy} (A : Vec Ideal S128x16384 ty) (R : Fin 128) (j : Fin 16384) :
    shapeCast S1x128x16384 A shapeCasts_S128x16384_S1x128x16384 (ix3 0 R j) = A (ix2 R j) := by
  pointwise
/-- The first lane of each row, as a row. -/
theorem lane_apply {ty : EltTy} (A : Vec Ideal S128x128 ty) (R : Fin 128) :
    shapeCast S1x128 (shapeCast S128 (extractStridedSlice S128x1 ![0, 0] A slices_S128x128_S128x1_0_0)
        shapeCasts_S128x1_S128) shapeCasts_S128_S1x128 (ix2 0 R) = A (ix2 R 0) := by
  pointwise

theorem lead_flat {ty : EltTy} (G : Vec Ideal S1x128x16384 ty) : shapeCast S1x128x16384 (flat G) shapeCasts_S128x16384_S1x128x16384 = G := by
  funext i
  obtain ⟨R, j, rfl⟩ : ∃ (R : Fin 128) (j : Fin 16384), i = ix3 0 R j := ⟨i 1, i 2, by
    rw [eq_ix3 i]; congr 1; exact Subsingleton.elim (α := Fin 1) _ _⟩
  exact (lead_apply _ R j).trans (flat_apply G R j)
theorem lane_lanes {ty : EltTy} (G : Vec Ideal S1x128 ty) : shapeCast S1x128 (shapeCast S128 (extractStridedSlice S128x1 ![0, 0] (lanes G) slices_S128x128_S128x1_0_0)
        shapeCasts_S128x1_S128) shapeCasts_S128_S1x128 = G := by
  funext i
  obtain ⟨R, rfl⟩ : ∃ R : Fin 128, i = ix2 0 R := ⟨i 1, by
    rw [eq_ix2 i]; congr 1; exact Subsingleton.elim (α := Fin 1) _ _⟩
  exact (lane_apply _ R).trans (lanes_apply G R 0)

theorem tail8 (c : Dev nD) : Pipeline.afterTail₀ cfgs (dats m) 0 (V0 m) [hostOps1] c main_v8 = want5 m c := by
  refine (after8 _).trans ?_
  rw [show Pipeline.withArrays spec0 c (V0 m c) (fun w => (dats m 0 c).arrAt w cfg0.N) (Proc.devRef .tc main_v7_0) = flat (want5 m c)
    from (Pipeline.withArrays_arr spec0 arr_inj c (V0 m c) (fun w => (dats m 0 c).arrAt w cfg0.N) 5).trans (final5 m c)]
  exact lead_flat (want5 m c)

theorem tail9 (c : Dev nD) (hg : ∀ j, max (gains m c j) (-gains m c j) ≤ (((2 : ℝ) ^ (127 : ℕ) : ℝ) : EReal)) :
    Pipeline.afterTail₀ cfgs (dats m) 0 (V0 m) [hostOps1] c main_v9 = want6 m c := by
  refine (after9 _).trans ?_
  rw [show Pipeline.withArrays spec0 c (V0 m c) (fun w => (dats m 0 c).arrAt w cfg0.N) (Proc.devRef .tc main_v7_1) = flat (want6 m c)
    from (Pipeline.withArrays_arr spec0 arr_inj c (V0 m c) (fun w => (dats m 0 c).arrAt w cfg0.N) 6).trans (final6 m c hg)]
  exact lead_flat (want6 m c)

theorem tail12 (c : Dev nD) (hg : ∀ j, max (gains m c j) (-gains m c j) ≤ (((2 : ℝ) ^ (127 : ℕ) : ℝ) : EReal)) :
    Pipeline.afterTail₀ cfgs (dats m) 0 (V0 m) [hostOps1] c main_v12 = want7 m c := by
  refine (after12 _).trans ?_
  rw [show Pipeline.withArrays spec0 c (V0 m c) (fun w => (dats m 0 c).arrAt w cfg0.N) (Proc.devRef .tc main_v7_2) = lanes (want7 m c)
    from (Pipeline.withArrays_arr spec0 arr_inj c (V0 m c) (fun w => (dats m 0 c).arrAt w cfg0.N) 7).trans (final7 m c hg)]
  exact lane_lanes (want7 m c)

/-- On gains within range the program ends with the reference's results of its own arguments, those unchanged. -/
theorem values (hg : ∀ c j, max (gains m c j) (-gains m c j) ≤ (((2 : ℝ) ^ (127 : ℕ) : ℝ) : EReal)) : θ_run defs (onTc (τ := τ) (main (F := Ideal))) ⟨m, fun _ => 0, ρ⟩ fun r => ∀ c : Dev nD,
      r.2.mem ((c.tc : Thread nD τ).loc main_v8) = want5 m c
      ∧ r.2.mem ((c.tc : Thread nD τ).loc main_v9) = want6 m c
      ∧ r.2.mem ((c.tc : Thread nD τ).loc main_v12) = want7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h.1.1 c).2 main_v8 (Pipeline.mem_restRefs_of main_v8 (by decide) (by decide))).trans (tail8 m c),
        ((h.1.1 c).2 main_v9 (Pipeline.mem_restRefs_of main_v9 (by decide) (by decide))).trans (tail9 m c (hg c)),
        ((h.1.1 c).2 main_v12 (Pipeline.mem_restRefs_of main_v12 (by decide) (by decide))).trans (tail12 m c (hg c)),
        h.2.1 c⟩)
    (θ_run_and (run_main m ρ) (frame m ρ))

/-- The range claimed of the gains, as an order on them. -/
theorem bits_range : Ideal.ofBits .f32 0x7F000000#32 = (((2 : ℝ) ^ (127 : ℕ) : ℝ) : EReal) := by
  rw [show (2 : ℝ) ^ (127 : ℕ) = 170141183460469231731687303715884105728 by norm_num]
  simp [Ideal.ofBits, Ideal.ieee, -EReal.coe_mul]; norm_num
attribute [local instance] Pre_gain_in_range.Gen.facts in
theorem within (a0 a1 a2 a3) (w : Vec Ideal S16384 .f32) (h : Pre_gain_in_range.fn (F := Ideal) a0 a1 a2 a3 w = fun _ => 1#1)
    (j : Fin 16384) : max (w (ix1 j)) (-w (ix1 j)) ≤ (((2 : ℝ) ^ (127 : ℕ) : ℝ) : EReal) := by
  have h' : Ideal.cmp .ole (max (w (ix1 j)) (-w (ix1 j))) (Ideal.ofBits .f32 0x7F000000#32) = 1#1 := congrFun h (ix1 j)
  rw [← bits_range]
  exact (Ideal.cmp_ole_eq_one _ _).1 h'

end Cert.KernelIdeal.Run
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_gain_in_range
public import proofs.«01_k».proof.Proof.RunK
public import proofs.«01_k».proof.Proof.RunI
public import proofs.«01_k».proof.Proof.RefRun
public import proofs.«01_k».proof.Proof.Final
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_gain_in_range.Gen.facts

/-- The two programs agree on gains within range: the kernel ends with the reference's results of the arguments they share. -/
theorem agree : Cert.algebraic_KernelIdeal_ReferenceIdeal_pre_gain_in_range := fun m g m' g' hP hargs =>
  ⟨Cert.KernelIdeal.Run.want5 m, Cert.KernelIdeal.Run.want6 m, Cert.KernelIdeal.Run.want7 m,
    Cert.KernelIdeal.Run.values m g (fun c j => Cert.KernelIdeal.Run.within _ _ _ _ _ (hP c) j),
    (θ_run _ _ _).mono (fun r h c => by
      obtain ⟨h0, h1, h2, h3, h4⟩ := hargs c
      obtain ⟨r0, r1, r2, rest⟩ := h c
      rw [h0, h1, h2, h3, h4] at r0 r1 r2
      exact ⟨r0, r1, r2, rest⟩) (Cert.ReferenceIdeal.Value.run m' g')⟩

theorem claim : Cert.Claim := ⟨Cert.Kernel.Gen.facts, Cert.KernelIdeal.Gen.facts, Cert.ReferenceIdeal.Gen.facts, Cert.Pre_gain_in_range.Gen.facts,
  fun m g _ => Cert.Kernel.Run.frame m g, fun m g _ => Cert.KernelIdeal.Run.frame m g, fun m g _ => Cert.KernelIdeal.Run.frame m g,
  fun m g _ => Cert.ReferenceIdeal.Gen.frame m g, fun m g _ => Cert.ReferenceIdeal.Gen.frame m g, trivial, agree⟩

end Cert.Proof

end
